-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S3x512x4096 : Shape := ⟨3, ![3, 512, 4096]⟩
abbrev S4x8x128 : Shape := ⟨3, ![4, 8, 128]⟩
abbrev S3 : Shape := ⟨1, ![3]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S1024x512 : Shape := ⟨2, ![1024, 512]⟩
abbrev S1x1024x512 : Shape := ⟨3, ![1, 1024, 512]⟩
abbrev S1x1x1 : Shape := ⟨3, ![1, 1, 1]⟩
abbrev S512x512 : Shape := ⟨2, ![512, 512]⟩
abbrev S1x512x512 : Shape := ⟨3, ![1, 512, 512]⟩
abbrev S8x128 : Shape := ⟨2, ![8, 128]⟩
abbrev S1x8x128 : Shape := ⟨3, ![1, 8, 128]⟩
abbrev S4x1x1 : Shape := ⟨3, ![4, 1, 1]⟩
abbrev S4 : Shape := ⟨1, ![4]⟩
abbrev S1x4 : Shape := ⟨2, ![1, 4]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x512, .bf16⟩
  | .hbm, ⟨2, _⟩ => ⟨S4096x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .f32⟩
  | .local _ .vmem, ⟨3, _⟩ => ⟨S3x512x4096, .bf16⟩
  | .local _ .vmem, ⟨4, _⟩ => ⟨S3x512x4096, .bf16⟩
  | .local _ .vmem, ⟨5, _⟩ => ⟨S4x8x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22 : BitVec 32 := 1#32
  let v30 : BitVec 32 := Scalar.muli v24 c1_i32_22
  let v31 : BitVec 32 := Scalar.addi c0_i32_23 v30
  v31.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31 : BitVec 32 := 1#32
  let v39 : BitVec 32 := Scalar.muli v13 c1_i32_31
  let v40 : BitVec 32 := Scalar.addi c0_i32_32 v39
  v40.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v53 : BitVec 32 := Scalar.muli v2 c1024_i32
  let v54 : Index := Scalar.indexCast v53
  let c0_39 : Index := 0#32
  ![v54.toNat, 0]
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_79 : BitVec 32 := 1#32
  let v85 : BitVec 32 := Scalar.muli v24 c1_i32_79
  let v86 : BitVec 32 := Scalar.addi c0_i32_80 v85
  v86.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_89 : BitVec 32 := 1#32
  let v95 : BitVec 32 := Scalar.muli v13 c1_i32_89
  let v96 : BitVec 32 := Scalar.addi c0_i32_90 v95
  v96.toNat
def k0_off2 (d0 : Dev nD) (c0_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : BitVec 32 := Scalar.subi v2 c0_i32_95
  let c1_i32_96 : BitVec 32 := 1#32
  let v106 : BitVec 32 := Scalar.subi v105 c1_i32_96
  let c4_i32_97 : BitVec 32 := 4#32
  let c0_i32_98 : BitVec 32 := 0#32
  let v107 : BitVec 1 := Scalar.cmpi .eq c4_i32_97 c0_i32_98
  let c1_i32_99 : BitVec 32 := 1#32
  let v108 : BitVec 32 := Scalar.select v107 c1_i32_99 c4_i32_97
  let v109 : BitVec 32 := Scalar.remsi v106 v108
  let c0_i32_101 : BitVec 32 := 0#32
  let v111 : BitVec 1 := Scalar.cmpi .slt v109 c0_i32_101
  let c0_i32_102 : BitVec 32 := 0#32
  let v112 : BitVec 1 := Scalar.cmpi .slt v108 c0_i32_102
  let v113 : BitVec 1 := Scalar.xori v111 v112
  let c0_i32_100 : BitVec 32 := 0#32
  let v110 : BitVec 1 := Scalar.cmpi .ne v109 c0_i32_100
  let v114 : BitVec 1 := Scalar.andi v113 v110
  let v115 : BitVec 32 := Scalar.addi v109 v108
  let v116 : BitVec 32 := Scalar.select v114 v115 v109
  let c1024_i32_117 : BitVec 32 := 1024#32
  let v134 : BitVec 32 := Scalar.muli v116 c1024_i32_117
  let v135 : Index := Scalar.indexCast v134
  let c0_118 : Index := 0#32
  ![v135.toNat, 0]
def k0_off3 (d0 : Dev nD) (c0_i32_103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.addi v2 c0_i32_103
  let c1_i32_104 : BitVec 32 := 1#32
  let v118 : BitVec 32 := Scalar.addi v117 c1_i32_104
  let c4_i32_105 : BitVec 32 := 4#32
  let c0_i32_106 : BitVec 32 := 0#32
  let v119 : BitVec 1 := Scalar.cmpi .eq c4_i32_105 c0_i32_106
  let c1_i32_107 : BitVec 32 := 1#32
  let v120 : BitVec 32 := Scalar.select v119 c1_i32_107 c4_i32_105
  let v121 : BitVec 32 := Scalar.remsi v118 v120
  let c0_i32_109 : BitVec 32 := 0#32
  let v123 : BitVec 1 := Scalar.cmpi .slt v121 c0_i32_109
  let c0_i32_110 : BitVec 32 := 0#32
  let v124 : BitVec 1 := Scalar.cmpi .slt v120 c0_i32_110
  let v125 : BitVec 1 := Scalar.xori v123 v124
  let c0_i32_108 : BitVec 32 := 0#32
  let v122 : BitVec 1 := Scalar.cmpi .ne v121 c0_i32_108
  let v126 : BitVec 1 := Scalar.andi v125 v122
  let v127 : BitVec 32 := Scalar.addi v121 v120
  let v128 : BitVec 32 := Scalar.select v126 v127 v121
  let c1024_i32_125 : BitVec 32 := 1024#32
  let v142 : BitVec 32 := Scalar.muli v128 c1024_i32_125
  let c512_i32_126 : BitVec 32 := 512#32
  let v143 : BitVec 32 := Scalar.addi v142 c512_i32_126
  let v144 : Index := Scalar.indexCast v143
  let c0_127 : Index := 0#32
  ![v144.toNat, 0]
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_172 : BitVec 32 := 1#32
  let v186 : BitVec 32 := Scalar.muli v24 c1_i32_172
  let v187 : BitVec 32 := Scalar.addi c0_i32_173 v186
  v187.toNat
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_182 : BitVec 32 := 1#32
  let v196 : BitVec 32 := Scalar.muli v13 c1_i32_182
  let v197 : BitVec 32 := Scalar.addi c0_i32_183 v196
  v197.toNat
def k0_dev9 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_297 : BitVec 32 := 1#32
  let v344 : BitVec 32 := Scalar.addi v2 c1_i32_297
  let c4_i32_298 : BitVec 32 := 4#32
  let c0_i32_299 : BitVec 32 := 0#32
  let v345 : BitVec 1 := Scalar.cmpi .eq c4_i32_298 c0_i32_299
  let c1_i32_300 : BitVec 32 := 1#32
  let v346 : BitVec 32 := Scalar.select v345 c1_i32_300 c4_i32_298
  let v347 : BitVec 32 := Scalar.remsi v344 v346
  let c0_i32_302 : BitVec 32 := 0#32
  let v349 : BitVec 1 := Scalar.cmpi .slt v347 c0_i32_302
  let c0_i32_303 : BitVec 32 := 0#32
  let v350 : BitVec 1 := Scalar.cmpi .slt v346 c0_i32_303
  let v351 : BitVec 1 := Scalar.xori v349 v350
  let c0_i32_301 : BitVec 32 := 0#32
  let v348 : BitVec 1 := Scalar.cmpi .ne v347 c0_i32_301
  let v352 : BitVec 1 := Scalar.andi v351 v348
  let v353 : BitVec 32 := Scalar.addi v347 v346
  let v354 : BitVec 32 := Scalar.select v352 v353 v347
  let c1_i32_308 : BitVec 32 := 1#32
  let v355 : BitVec 32 := Scalar.muli v354 c1_i32_308
  let v356 : BitVec 32 := Scalar.addi c0_i32_309 v355
  v356.toNat
def k0_dev10 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_314 : BitVec 32 := 2#32
  let v365 : BitVec 32 := Scalar.addi v2 c2_i32_314
  let c4_i32_315 : BitVec 32 := 4#32
  let c0_i32_316 : BitVec 32 := 0#32
  let v366 : BitVec 1 := Scalar.cmpi .eq c4_i32_315 c0_i32_316
  let c1_i32_317 : BitVec 32 := 1#32
  let v367 : BitVec 32 := Scalar.select v366 c1_i32_317 c4_i32_315
  let v368 : BitVec 32 := Scalar.remsi v365 v367
  let c0_i32_319 : BitVec 32 := 0#32
  let v370 : BitVec 1 := Scalar.cmpi .slt v368 c0_i32_319
  let c0_i32_320 : BitVec 32 := 0#32
  let v371 : BitVec 1 := Scalar.cmpi .slt v367 c0_i32_320
  let v372 : BitVec 1 := Scalar.xori v370 v371
  let c0_i32_318 : BitVec 32 := 0#32
  let v369 : BitVec 1 := Scalar.cmpi .ne v368 c0_i32_318
  let v373 : BitVec 1 := Scalar.andi v372 v369
  let v374 : BitVec 32 := Scalar.addi v368 v367
  let v375 : BitVec 32 := Scalar.select v373 v374 v368
  let c1_i32_325 : BitVec 32 := 1#32
  let v376 : BitVec 32 := Scalar.muli v375 c1_i32_325
  let v377 : BitVec 32 := Scalar.addi c0_i32_326 v376
  v377.toNat
def k0_dev11 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v386 : BitVec 32 := Scalar.addi v2 c3_i32
  let c4_i32_331 : BitVec 32 := 4#32
  let c0_i32_332 : BitVec 32 := 0#32
  let v387 : BitVec 1 := Scalar.cmpi .eq c4_i32_331 c0_i32_332
  let c1_i32_333 : BitVec 32 := 1#32
  let v388 : BitVec 32 := Scalar.select v387 c1_i32_333 c4_i32_331
  let v389 : BitVec 32 := Scalar.remsi v386 v388
  let c0_i32_335 : BitVec 32 := 0#32
  let v391 : BitVec 1 := Scalar.cmpi .slt v389 c0_i32_335
  let c0_i32_336 : BitVec 32 := 0#32
  let v392 : BitVec 1 := Scalar.cmpi .slt v388 c0_i32_336
  let v393 : BitVec 1 := Scalar.xori v391 v392
  let c0_i32_334 : BitVec 32 := 0#32
  let v390 : BitVec 1 := Scalar.cmpi .ne v389 c0_i32_334
  let v394 : BitVec 1 := Scalar.andi v393 v390
  let v395 : BitVec 32 := Scalar.addi v389 v388
  let v396 : BitVec 32 := Scalar.select v394 v395 v389
  let c1_i32_341 : BitVec 32 := 1#32
  let v397 : BitVec 32 := Scalar.muli v396 c1_i32_341
  let v398 : BitVec 32 := Scalar.addi c0_i32_342 v397
  v398.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Slots.lean ====
/-
A stack of matrices, held slot by slot.

`stack` is a memref of shape `[n, a, b]`; its slot `h` is the matrix at leading index `h`, as the kernel forms it: the
slice of sizes `[1, a, b]` at `[h, 0, 0]` with the unit axis squeezed away. A stack owned is its slots owned
(`slots_of_stack`, `stack_of_slots`); a load or a store of the stack at a slot's rectangle needs the slot alone
(`wp_load_slot`, `wp_store_slot`). Also here, in terms of `owns`: a load of any memref (`wp_load_owns`), and an addressed
copy from one owned memref into another (`wp_copy_owns`).
-/
module

public import Idealize.ShloMosaic.Lib.Memref
public import Idealize.ShloMosaic.Lib.MemrefSat
public import Idealize.ShloMosaic.Lib.Rounds
public import Idealize.ShloMosaic.Lib.ValueLayout
public import Idealize.ShloMosaic.Lib.Tactic

@[expose] public section

noncomputable section

namespace Cert.Stack

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-! ## The slots -/

section Slots

variable {n a b : Nat}

/-- The rectangle of slot `h`. -/
abbrev slotRect (n a b : Nat) (h : Fin n) : Rect ⟨3, ![n, a, b]⟩ :=
  Rect.unit ![h.val, 0, 0] ![1, a, b] (fun x => match x with
    | ⟨0, _⟩ => h.isLt
    | ⟨1, _⟩ => (Nat.zero_add a).le
    | ⟨2, _⟩ => (Nat.zero_add b).le)

theorem slotRect_emb (h : Fin n) (j : (⟨3, ![1, a, b]⟩ : Shape).Idx) :
    (slotRect n a b h).emb j = ix3 h (j 1) (j 2) := by
  have h0 : (j 0).val < 1 := (j 0).isLt
  funext x
  match x with
  | ⟨0, _⟩ => exact Fin.ext (show h.val + 1 * (j 0).val = h.val by omega)
  | ⟨1, _⟩ => exact Fin.ext (show 0 + 1 * (j 1).val = (j 1).val by omega)
  | ⟨2, _⟩ => exact Fin.ext (show 0 + 1 * (j 2).val = (j 2).val by omega)

theorem slotRect_disjoint (h h' : Fin n) (hne : h ≠ h') : Disjoint (slotRect n a b h).set (slotRect n a b h').set := by
  rw [Finset.disjoint_left]
  intro y hy hy'
  rw [← Rect.map_emb_univ, Finset.mem_map] at hy hy'
  obtain ⟨j, -, rfl⟩ := hy
  obtain ⟨j', -, hj⟩ := hy'
  rw [slotRect_emb, slotRect_emb] at hj
  exact hne (congrFun hj 0).symm

theorem slotRect_cover : (Finset.univ : Finset (Fin n)).biUnion (fun h => (slotRect n a b h).set) = Finset.univ := by
  refine Finset.eq_univ_of_forall fun y => Finset.mem_biUnion.mpr ⟨y 0, Finset.mem_univ _, ?_⟩
  rw [← Rect.map_emb_univ, Finset.mem_map]
  exact ⟨ix3 (0 : Fin 1) (y 1) (y 2), Finset.mem_univ _, (slotRect_emb (y 0) _).trans (eq_ix3 y).symm⟩

variable {κ : Kind} {sp : Space} {e : EltTy}

/-- Slot `h` of a stack. -/
abbrev slot (M : Memref sig κ sp ⟨3, ![n, a, b]⟩ e) (hsq : (⟨3, ![1, a, b]⟩ : Shape).Squeezes ⟨2, ![a, b]⟩) (h : Fin n) :
    Memref sig κ sp ⟨2, ![a, b]⟩ e :=
  (M.slice (slotRect n a b h) (fun _ => rfl)).squeeze ⟨2, ![a, b]⟩ hsq

/-- What a slot reads. -/
theorem slot_read (M : Memref sig κ sp ⟨3, ![n, a, b]⟩ e) (hsq : (⟨3, ![1, a, b]⟩ : Shape).Squeezes ⟨2, ![a, b]⟩) (h : Fin n)
    (f : M.view.ty.Contents Val) (i : (⟨2, ![a, b]⟩ : Shape).Idx) :
    (slot M hsq h).view.read Val f i = M.view.read Val f (ix3 h (i 0) (i 1)) := by
  have hi : Shape.reshapeEquiv hsq.numel_eq i = ix3 (⟨0, Nat.one_pos⟩ : Fin 1) (i 0) (i 1) :=
    (congrArg _ (eq_ix2 i)).trans (reshapeEquiv_ix2_1ab _ _ _)
  exact congrArg (M.view.read Val f) ((congrArg (slotRect n a b h).emb hi).trans (slotRect_emb h _))

end Slots

section Owns

variable (c : Thread nD τ) {sp : Space} {e : EltTy}

/-- Owning the slice of a slot is owning the slot, the unit axis dropped from the contents. -/
theorem owns_slot {n a b : Nat} (M : Memref sig c.2.kind sp ⟨3, ![n, a, b]⟩ e) (q : PosShare TreeShare)
    (hsq : (⟨3, ![1, a, b]⟩ : Shape).Squeezes ⟨2, ![a, b]⟩) (h : Fin n) (X : (⟨2, ![a, b]⟩ : Shape).Idx → Val e) :
    (owns c (M.slice (slotRect n a b h) (fun _ => rfl)) q (fun j => X (ix2 (j 1) (j 2))) : sProp 𝕄) = owns c (slot M hsq h) q X := by
  have hset : (slot M hsq h).view.set = (M.slice (slotRect n a b h) (fun _ => rfl)).view.set := View.set_reshape _ _
  have hrd (f : M.view.ty.Contents Val) (j : (⟨3, ![1, a, b]⟩ : Shape).Idx) :
      (M.slice (slotRect n a b h) (fun _ => rfl)).view.read Val f j = M.view.read Val f (ix3 h (j 1) (j 2)) :=
    congrArg (M.view.read Val f) (slotRect_emb h j)
  have mp : (owns c (M.slice (slotRect n a b h) (fun _ => rfl)) q (fun j => X (ix2 (j 1) (j 2))) : sProp 𝕄) ⊢ owns c (slot M hsq h) q X := by
    unfold owns
    iintro ⟨%f, %hf, H⟩
    iexists f
    isplitr
    · ipureintro
      funext i
      rw [slot_read]
      exact ((hrd f (ix3 (0 : Fin 1) (i 0) (i 1))).symm.trans (congrFun hf _)).trans (congrArg X (eq_ix2 i).symm)
    · rw [hset]; iexact H
  have mpr : (owns c (slot M hsq h) q X : sProp 𝕄) ⊢ owns c (M.slice (slotRect n a b h) (fun _ => rfl)) q (fun j => X (ix2 (j 1) (j 2))) := by
    unfold owns
    iintro ⟨%f, %hf, H⟩
    iexists f
    isplitr
    · ipureintro
      funext j
      exact (hrd f j).trans ((slot_read M hsq h f (ix2 (j 1) (j 2))).symm.trans (congrFun hf _))
    · rw [hset]; iexact H
  exact BI.equiv_iff.mp ⟨mp, mpr⟩

/-- A stack owned is its slots owned. -/
theorem slots_of_stack {n a b : Nat} (M : Memref sig c.2.kind sp ⟨3, ![n, a, b]⟩ e) (q : PosShare TreeShare)
    (hsq : (⟨3, ![1, a, b]⟩ : Shape).Squeezes ⟨2, ![a, b]⟩) (X : (⟨3, ![n, a, b]⟩ : Shape).Idx → Val e) :
    (owns c M q X : sProp 𝕄) ⊢ bigSep Finset.univ fun h : Fin n => owns c (slot M hsq h) q (fun i => X (ix3 h (i 0) (i 1))) := by
  refine (owns_rects c M q (slotRect n a b) (fun _ _ => rfl) slotRect_disjoint slotRect_cover X).trans ?_
  refine bigSep_mono fun h _ => ?_
  rw [← owns_slot]
  have : (fun j => X ((slotRect n a b h).emb j)) = fun j : (⟨3, ![1, a, b]⟩ : Shape).Idx => X (ix3 h (j 1) (j 2)) :=
    funext fun j => congrArg X (slotRect_emb h j)
  rw [this]
  exact BIBase.Entails.rfl (PROP := sProp 𝕄)

/-- And back: slots owned are the stack owned. -/
theorem stack_of_slots {n a b : Nat} [∀ e, Nonempty (Val e)] (M : Memref sig c.2.kind sp ⟨3, ![n, a, b]⟩ e) (q : PosShare TreeShare)
    (hsq : (⟨3, ![1, a, b]⟩ : Shape).Squeezes ⟨2, ![a, b]⟩) (Y : Fin n → (⟨2, ![a, b]⟩ : Shape).Idx → Val e) :
    (bigSep Finset.univ fun h : Fin n => owns c (slot M hsq h) q (Y h)) ⊢ (owns c M q (fun x => Y (x 0) (ix2 (x 1) (x 2))) : sProp 𝕄) := by
  refine BIBase.Entails.trans ?_ (owns_of_rects c M q (slotRect n a b) (fun _ _ => rfl) slotRect_disjoint slotRect_cover _)
  refine bigSep_mono fun h _ => ?_
  rw [← owns_slot]
  have : (fun j => Y ((slotRect n a b h).emb j 0) (ix2 ((slotRect n a b h).emb j 1) ((slotRect n a b h).emb j 2)))
      = fun j : (⟨3, ![1, a, b]⟩ : Shape).Idx => Y h (ix2 (j 1) (j 2)) :=
    funext fun j => congrArg (fun x : (⟨3, ![n, a, b]⟩ : Shape).Idx => Y (x 0) (ix2 (x 1) (x 2))) (slotRect_emb h j)
  rw [this]
  exact BIBase.Entails.rfl (PROP := sProp 𝕄)

/-! ## Steps of a program -/

section Steps

variable [Preorder Lvl] {Λ : Labels} {defs : Defs nD τ sig Val Λ} (𝒱 : Variants) (bd : Option 𝒱.V) {Γ : PendingWaitsCtx sig Ix}
variable {α : Type} {Q : α → sProp (MT nD τ sig Ix Val Name U Lvl)} {Es : Set Name}

/-- A load of a memref owned, at any rectangle. -/
theorem wp_load_owns {cs : CoreSpace} {s : Shape} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄) ⊢ iprop((owns c m q X -∗ wp frame (wpE' defs 𝒱 c bd Γ) Es (k fun j => X (r.emb j)) Q)
      -∗ wp frame (wpE' defs 𝒱 c bd Γ) Es (.op (.load m r hl) k) Q) := by
  unfold owns
  iintro ⟨%f, %hf, H⟩ Hk
  iapply (wp_load 𝒱 c bd Es (m := m) (r := r) (hl := hl) (k := k) (m.view.setOn_subset_set r.set)) $$ H
  iintro H
  rw [show m.view.readAt Val r f = fun j => X (r.emb j) from funext fun j => congrFun hf (r.emb j)]
  iapply Hk
  iexists f
  isplitr
  · ipureintro; exact hf
  · iexact H

/-- A load of a stack at a slot's rectangle, the slot owned. -/
theorem wp_load_slot {cs : CoreSpace} {n a b : Nat} {M : Memref sig c.2.kind cs ⟨3, ![n, a, b]⟩ e}
    (hsq : (⟨3, ![1, a, b]⟩ : Shape).Squeezes ⟨2, ![a, b]⟩) (h : Fin n) {hl : M.view.LoadsAt (slotRect n a b h)}
    {k : ((⟨3, ![1, a, b]⟩ : Shape).Idx → Val e) → Prog (TpuEff nD τ sig Val Λ c.2) α} {q : PosShare TreeShare}
    {X : (⟨2, ![a, b]⟩ : Shape).Idx → Val e} :
    (owns c (slot M hsq h) q X : sProp 𝕄)
      ⊢ iprop((owns c (slot M hsq h) q X -∗ wp frame (wpE' defs 𝒱 c bd Γ) Es (k fun j => X (ix2 (j 1) (j 2))) Q)
        -∗ wp frame (wpE' defs 𝒱 c bd Γ) Es (.op (.load M (slotRect n a b h) hl) k) Q) := by
  rw [← owns_slot]
  unfold owns
  iintro ⟨%f, %hf, H⟩ Hk
  iapply (wp_load 𝒱 c bd Es (m := M) (r := (slotRect n a b h).toLoadRect) (hl := hl) (k := k)
    (S := (M.slice (slotRect n a b h) (fun _ => rfl)).view.set) (by rw [View.set_slice]; exact Finset.Subset.refl _)) $$ H
  iintro H
  rw [show M.view.readAt Val (slotRect n a b h).toLoadRect f = fun j => X (ix2 (j 1) (j 2)) from hf]
  iapply Hk
  iexists f
  isplitr
  · ipureintro; exact hf
  · iexact H

/-- A store of a stack at a slot's rectangle, the slot owned at any contents. -/
theorem wp_store_slot {cs : CoreSpace} {n a b : Nat} {M : Memref sig c.2.kind cs ⟨3, ![n, a, b]⟩ e}
    (hsq : (⟨3, ![1, a, b]⟩ : Shape).Squeezes ⟨2, ![a, b]⟩) (h : Fin n) {w : (⟨3, ![1, a, b]⟩ : Shape).Idx → Val e}
    {hx : (M.access (slotRect n a b h)).Stores Finset.univ} {hm : Finset.univ = Finset.univ ∨ ∀ x, (slotRect n a b h).stride x = 1}
    {k : PUnit → Prog (TpuEff nD τ sig Val Λ c.2) α} {X : (⟨2, ![a, b]⟩ : Shape).Idx → Val e} :
    (owns c (slot M hsq h) fullShare X : sProp 𝕄)
      ⊢ iprop((owns c (slot M hsq h) fullShare (fun i => w (ix3 (0 : Fin 1) (i 0) (i 1))) -∗ wp frame (wpE' defs 𝒱 c bd Γ) Es (k ⟨⟩) Q)
        -∗ wp frame (wpE' defs 𝒱 c bd Γ) Es (.op (.store M (slotRect n a b h) w Finset.univ hx hm) k) Q) := by
  rw [← owns_slot, ← owns_slot]
  unfold owns
  iintro ⟨%f, %hf, H⟩ Hk
  iapply (wp_store 𝒱 c bd Es (m := M) (r := slotRect n a b h) (w := w) (Mk := Finset.univ) (hx := hx) (hm := hm) (k := k)
    (S := (M.slice (slotRect n a b h) (fun _ => rfl)).view.set) (Finset.Subset.refl _)) $$ H
  iintro H
  iapply Hk
  iexists ((M.access (slotRect n a b h)).write Val f w Finset.univ)
  isplitr
  · ipureintro
    refine (View.read_write_univ (v := M.access (slotRect n a b h)) f w).trans (funext fun j => congrArg w ?_)
    have h0 : (j 0).val < 1 := (j 0).isLt
    funext x
    match x with
    | ⟨0, _⟩ => exact Fin.ext (show (j 0).val = 0 by omega)
    | ⟨1, _⟩ => rfl
    | ⟨2, _⟩ => rfl
  · iexact H

variable {D : Type} [DecidableEq D] (E : Emb (Rounds.URounds (GSem nD τ sig) D) (MT nD τ sig Ix Val Name U Lvl)) (Rd : Rounds.Schedule (GSem nD τ sig) D (MT nD τ sig Ix Val Name U Lvl))

/-- An addressed copy of one memref, owned at some share, into a memref of device `c'` owned at any contents, with
    resources `F` handed over besides: the copy pays the sender's completion with the source as it was, and the
    receiver's with the destination at the source's contents and `F`. -/
theorem wp_copy_owns {sp' : Space} {s : Shape} {c' : Thread nD τ} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X Z : s.Idx → Val e} {F : sProp 𝕄} {d₁ d₂ : D}
    {κ₁ κ₂ : Name} (hd₁ : d₁ ∈ Rd.duties (c, sS) 0) (hd₂ : d₂ ∈ Rd.duties (c', sem) 0)
    (ι : Ix) (N : ℕ) (hN : dst.view.amount sem = N)
    (hk₁ : Rd.amount (c, sS) 0 d₁ = N) (hk₂ : Rd.amount (c', sem) 0 d₂ = N)
    {O : CellTallies nD τ sig Ix} {W : Waits sig Ix}
    (hpay₁ : (owns c src q X : sProp 𝕄) ⊢ Rd.payload (c, sS) 0 d₁)
    (hpay₂ : iprop(owns c' dst fullShare X ∗ F) ⊢ Rd.payload (c', sem) 0 d₂) (hr : τ.routes c c' = true) :
    (iprop(Rounds.cellInv E Rd κ₁ (c, sS) ∗ Rounds.cellInv E Rd κ₂ (c', sem)
        ∗ owns c src q X ∗ owns c' dst fullShare Z ∗ F
        ∗ owes c (O + tallyAt (c', sem) ι N) W
        ∗ Rounds.dutyTok E (c, sS) 0 d₁ ∗ Rounds.reached E (c, sS) 0
        ∗ Rounds.dutyTok E (c', sem) 0 d₂ ∗ Rounds.reached E (c', sem) 0) : sProp 𝕄)
      ⊢ iprop(((cred (tallyAt (c, sS) ι N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  iintro ⟨#H1, #H2, Hs, Hd, HF, How, Ht1, Hr1, Ht2, Hr2⟩ Hk
  ihave Hs := (show (owns c src q X : sProp 𝕄) ⊢ iprop(∃ f, ⌜src.view.read Val f = X⌝ ∗ (src.view.loc c ↦[src.view.set]{q} f)) from .rfl) $$ Hs
  ihave Hd := (show (owns c' dst fullShare Z : sProp 𝕄) ⊢ iprop(∃ f, ⌜dst.view.read Val f = Z⌝ ∗ (dst.view.loc c' ↦[dst.view.set]{fullShare} f)) from .rfl) $$ Hd
  icases Hs with ⟨%fs, %hfs, Hs⟩
  icases Hd with ⟨%fd, %hfd, Hd⟩
  iapply (Rounds.wp_send_pointsTo_with 𝒱 E Rd c bd (κ₁ := κ₁) (κ₂ := κ₂) (r₁ := 0) (r₂ := 0) (d₁ := d₁) (d₂ := d₂) (F := F)
    (fs := fs) (fd := fd) (q := q) (hsc := hsc) (hsrc := hsrc) (hdst := hdst) (hsem := hsem)
    hd₁ hd₂ ι ι N hN hk₁ hk₂ O rfl (W := W)
    ((owns_intro c src q fs).trans (by rw [hfs]; exact hpay₁))
    ((sep_mono_left ((owns_intro c' dst fullShare _).trans (by rw [View.read_write_univ, hfs]))).trans hpay₂) hr)
    $$ [H1 H2 Hs Hd HF How Ht1 Hr1 Ht2 Hr2]
  · isplitr; · iexact H1
    isplitr; · iexact H2
    isplitl [Hs]; · iexact Hs
    isplitl [Hd HF]
    · isplitl [Hd] <;> iassumption
    isplitl [How]; · iexact How
    isplitl [Ht1]; · iexact Ht1
    isplitl [Hr1]; · iexact Hr1
    isplitl [Ht2] <;> iassumption
  iexact Hk

end Steps

end Owns

end Cert.Stack

end
-- ==== Proof.Protocol.lean ====
/-
# 01_k — the protocol of the launch

Four devices stand in a ring. Each holds a block of rows of `x` and a block of columns of `w`. The blocks of `x` travel
round the ring by halves: the upper halves one way (`cw`), the lower halves the other (`ccw`), three hops each. Every
device multiplies what arrives with its columns of `w`, and so fills its columns of the product. Then the devices tell
each other the largest magnitude each has seen, and every one scales its columns by the largest of all.

This module names the semaphores, says what lies in every buffer when, and gives the schedule of the launch's cells: who
signals a semaphore, and what passes to the waiter with the signal.
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's copy, and the cells of this launch with duties named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device `k` places further on. -/
def ahead (k : ℕ) (c : Dev nD) : Dev nD := ⟨(c.val + k) % 4, Nat.mod_lt _ (by decide)⟩

abbrev nxt (c : Dev nD) : Dev nD := ahead 1 c
abbrev prv (c : Dev nD) : Dev nD := ahead 3 c

/-- Whose rows arrive in the upper, and in the lower, stack at hop `h`. -/
abbrev cwSrc (h : Fin 3) (c : Dev nD) : Dev nD := ahead (3 * (h.val + 1)) c
abbrev ccwSrc (h : Fin 3) (c : Dev nD) : Dev nD := ahead (h.val + 1) c

theorem prv_nxt (c : Dev nD) : prv (nxt c) = c := by revert c; decide
theorem nxt_prv (c : Dev nD) : nxt (prv c) = c := by revert c; decide

/-! ## Memrefs and semaphores -/

abbrev xM : Memref sig .tc .vmem S1024x4096 .bf16 := Memref.whole cc0_stg0_0
abbrev wM : Memref sig .tc .vmem S4096x512 .bf16 := Memref.whole cc0_stg1_0
abbrev oM : Memref sig .tc .vmem S4096x512 .f32 := Memref.whole cc0_stg2_0
abbrev cwM : Memref sig .tc .vmem S3x512x4096 .bf16 := Memref.whole cc0_scratch0
abbrev ccwM : Memref sig .tc .vmem S3x512x4096 .bf16 := Memref.whole cc0_scratch1
abbrev amM : Memref sig .tc .vmem S4x8x128 .f32 := Memref.whole cc0_scratch2

abbrev cwSlot (h : Fin 3) : Memref sig .tc .vmem S512x4096 .bf16 := slot cwM squeezes_S1x512x4096_S512x4096 h
abbrev ccwSlot (h : Fin 3) : Memref sig .tc .vmem S512x4096 .bf16 := slot ccwM squeezes_S1x512x4096_S512x4096 h
abbrev amSlot (h : Fin 4) : Memref sig .tc .vmem S8x128 .f32 := slot amM squeezes_S1x8x128_S8x128 h

/-- The upper (`t = 0`) and the lower (`t = 1`) half of the rows of a block. -/
abbrev halfRect (t : Fin 2) : Rect S1024x4096 :=
  Rect.unit (s := S1024x4096) ![512 * t.val, 0] S512x4096.size (fun x => match x with
    | ⟨0, _⟩ => (by have := t.isLt; show 512 * t.val + 512 ≤ 1024; omega)
    | ⟨1, _⟩ => Nat.le_refl 4096)
abbrev xHalf (t : Fin 2) : Memref sig .tc .vmem S512x4096 .bf16 := xM.slice (halfRect t) (fun _ => rfl)

/-- The runtime's barrier semaphore. -/
abbrev barS : Sem sig := (SemArray.scalar (sig.barrier 0 rfl) : Sems sig S_).sem

/-- The six arrays of copy semaphores: sends and receives of the upper ring, of the lower ring, of the maxima. -/
abbrev sems : Fin 6 → DmaSems sig S3
  | 0 => cc0_scratch3 | 1 => cc0_scratch4 | 2 => cc0_scratch5 | 3 => cc0_scratch6 | 4 => cc0_scratch7 | 5 => cc0_scratch8

/-- Semaphore `h` of family `f`. -/
abbrev xsem (f : Fin 6) (h : Fin 3) : DmaSem sig :=
  (((sems f).slice (Rect.unit (s := S3) ![h.val] S1.size (fun x => match x with | ⟨0, _⟩ => h.isLt))).squeeze S_ squeezes_S1_S_).sem

theorem xsem_val (f : Fin 6) (h : Fin 3) : (xsem f h).val = 3 + 3 * f.val + h.val := by revert f h; decide

set_option backward.proofsInPublic true in
/-- The family and place a copy semaphore has; none for the others. -/
def famOf : SemLoc sig → Option (Fin 6 × Fin 3)
  | .reg _ => none
  | .dma q => if hq : 3 ≤ q.val ∧ q.val < 21 then some (⟨(q.val - 3) / 3, by omega⟩, ⟨(q.val - 3) % 3, by omega⟩) else none

theorem famOf_xsem (f : Fin 6) (h : Fin 3) : famOf (.dma (xsem f h)) = some (f, h) := by revert f h; decide
theorem famOf_bar : famOf (.reg barS) = none := rfl

abbrev barCell (c : Dev nD) : GSem nD τ sig := ((c : Thread nD τ), .reg barS)
abbrev xCell (f : Fin 6) (h : Fin 3) (c : Dev nD) : GSem nD τ sig := ((c : Thread nD τ), .dma (xsem f h))

/-- All the semaphores of the protocol on one device: the barrier, and the eighteen of the copies. -/
abbrev csem : Option (Fin 6 × Fin 3) → SemLoc sig
  | none => .reg barS
  | some p => .dma (xsem p.1 p.2)
abbrev kcell (ck : Dev nD × Option (Fin 6 × Fin 3)) : GSem nD τ sig := ((ck.1 : Thread nD τ), csem ck.2)

/-- What a copy of half a block, and of a tile of the maxima, credits. -/
abbrev credX : ℕ := RefSig.tileCredit S512x4096 .bf16
abbrev credA : ℕ := RefSig.tileCredit S8x128 .f32
abbrev amt (f : Fin 6) : ℕ := if f.val < 4 then credX else credA

theorem amt_pos (f : Fin 6) : 0 < amt f := by revert f; decide

/-- The device a receive semaphore's copies go to. -/
abbrev tgt (f : Fin 6) (h : Fin 3) (c : Dev nD) : Dev nD :=
  match f with
  | 1 => nxt c
  | 3 => prv c
  | _ => ahead (h.val + 1) c

/-! ## Contents -/

section Contents

variable (X : Dev nD → Vec F S1024x4096 .bf16) (Wt : Dev nD → Vec F S4096x512 .bf16)

/-- The upper or lower half of a block. -/
def half (B : Vec F S1024x4096 .bf16) (t : Fin 2) : Vec F S512x4096 .bf16 := fun j => B ((halfRect t).emb j)

/-- What the upper and the lower stack of device `c` hold in slot `h` once it has arrived. -/
def cwV (h : Fin 3) (c : Dev nD) : Vec F S512x4096 .bf16 := half (X (cwSrc h c)) 0
def ccwV (h : Fin 3) (c : Dev nD) : Vec F S512x4096 .bf16 := half (X (ccwSrc h c)) 1

/-- Half a block as a load of its slot gives it: with a unit axis in front. -/
def up (B : Vec F S512x4096 .bf16) : Vec F S1x512x4096 .bf16 := fun j => B (ix2 (j 1) (j 2))

/-- The product of half a block with the device's columns. -/
def prod (B : Vec F S512x4096 .bf16) (c : Dev nD) : Vec F S512x512 .f32 := k0_pay4 (up B) (Wt c)

/-- The largest magnitude after the device's own rows, and after each of the first two hops. -/
def top0 (c : Dev nD) : F .f32 := k0_pay3 (X c) (Wt c)
def top1 (c : Dev nD) : F .f32 :=
  k0_pay7 (top0 X Wt c) (k0_pay5 (up (ccwV X 0 c)) (Wt c)) (k0_pay6 (up (cwV X 0 c)) (Wt c))
def top2 (c : Dev nD) : F .f32 :=
  k0_pay10 (top1 X Wt c) (k0_pay8 (up (cwV X 1 c)) (Wt c)) (up (ccwV X 1 c)) (Wt c)

/-- The tile of the device's largest magnitude, after the last hop. -/
def tile (c : Dev nD) : Vec F S1x8x128 .f32 :=
  k0_pay13 (top2 X Wt c) (k0_pay11 (up (cwV X 2 c)) (Wt c)) (k0_pay12 (up (ccwV X 2 c)) (Wt c))
def amV (c : Dev nD) : Vec F S8x128 .f32 := fun i => tile X Wt c (ix3 (0 : Fin 1) (i 0) (i 1))

/-- Device `c`'s columns of the product, row block by row block. -/
def accV (c : Dev nD) : Vec F S4096x512 .f32 := fun i =>
  let o : Dev nD := ⟨(i 0).val / 1024, by have : (i 0).val < 4096 := (i 0).isLt; show (i 0).val / 1024 < 4; omega⟩
  if o = c then k0_pay2 (X c) (Wt c) (ix2 (⟨(i 0).val % 1024, Nat.mod_lt _ (by decide)⟩ : Fin 1024) (i 1))
  else if (i 0).val % 1024 < 512 then
    prod Wt (half (X o) 0) c (ix2 (⟨(i 0).val % 512, Nat.mod_lt _ (by decide)⟩ : Fin 512) (i 1))
  else prod Wt (half (X o) 1) c (ix2 (⟨(i 0).val % 512, Nat.mod_lt _ (by decide)⟩ : Fin 512) (i 1))

/-- Whose maximum lies in slot `h` of device `c`'s stack of maxima. -/
abbrev amSrc (h : Fin 4) (c : Dev nD) : Dev nD := ahead (3 * h.val) c

/-- What the last load of the maxima reads. -/
def tops (c : Dev nD) : Vec F S4x1x1 .f32 := fun j => amV X Wt (amSrc (j 0) c) (ix2 (0 : Fin 8) (0 : Fin 128))

/-- The kernel's result on device `c`. -/
def outV (c : Dev nD) : Vec F S4096x512 .f32 := k0_pay1 (tops X Wt c) (accV X Wt c)

/-! ## What passes with a signal -/

/-- A memref owned in full, whatever it holds. -/
abbrev free {s : Shape} {e : EltTy} (c : Dev nD) (M : Memref sig .tc .vmem s e) : sProp 𝕄 :=
  iprop(∃ Z, owns (c : Thread nD τ) M fullShare Z)

abbrev rightShare : PosShare TreeShare := fullShare.right
abbrev leftShare : PosShare TreeShare := fullShare.left

/-- The share of its tile of maxima that each of the three copies of it reads at. -/
abbrev amShare : Fin 3 → PosShare TreeShare
  | 0 => fullShare.left | 1 => fullShare.right.left | 2 => fullShare.right.right

/-- What the waiter of a copy semaphore of device `c` gets: of a send, the source back; of a receive, the slot filled.
    With the first hop of the upper ring comes the slot for the maxima two devices on. -/
def xpay (f : Fin 6) (h : Fin 3) (c : Dev nD) : sProp 𝕄 :=
  match f, h with
  | 0, 0 => owns (c : Thread nD τ) (xHalf 0) rightShare (half (X c) 0)
  | 0, 1 => owns (c : Thread nD τ) (cwSlot 0) rightShare (cwV X 0 c)
  | 0, 2 => owns (c : Thread nD τ) (cwSlot 1) rightShare (cwV X 1 c)
  | 1, 0 => iprop(owns (c : Thread nD τ) (cwSlot 0) fullShare (cwV X 0 c) ∗ free (ahead 2 c) (amSlot 2))
  | 1, h => owns (c : Thread nD τ) (cwSlot h) fullShare (cwV X h c)
  | 2, 0 => owns (c : Thread nD τ) (xHalf 1) rightShare (half (X c) 1)
  | 2, 1 => owns (c : Thread nD τ) (ccwSlot 0) rightShare (ccwV X 0 c)
  | 2, 2 => owns (c : Thread nD τ) (ccwSlot 1) rightShare (ccwV X 1 c)
  | 3, h => owns (c : Thread nD τ) (ccwSlot h) fullShare (ccwV X h c)
  | 4, h => owns (c : Thread nD τ) (amSlot 0) (amShare h) (amV X Wt c)
  | 5, h => owns (c : Thread nD τ) (amSlot h.succ) fullShare (amV X Wt (amSrc h.succ c))

/-- What passes with the signal of the barrier of device `c` that its successor sends: the successor's upper stack, and
    the slot for `c`'s maximum; -/
def barPayN (c : Dev nD) : sProp 𝕄 :=
  iprop(free (nxt c) (cwSlot 0) ∗ free (nxt c) (cwSlot 1) ∗ free (nxt c) (cwSlot 2) ∗ free (nxt c) (amSlot 1))
/-- and with the one its predecessor sends: the predecessor's lower stack, the slot for `c`'s maximum, and the slot for
    the maximum of `c`'s successor. -/
def barPayP (c : Dev nD) : sProp 𝕄 :=
  iprop(free (prv c) (ccwSlot 0) ∗ free (prv c) (ccwSlot 1) ∗ free (prv c) (ccwSlot 2) ∗ free (prv c) (amSlot 3)
    ∗ free (prv c) (amSlot 2))

instance xpay_storable (f : Fin 6) (h : Fin 3) (c : Dev nD) : BI.Storable (upEmb : UEmb _ 𝕄) (xpay X Wt f h c) := by
  unfold xpay; split <;> infer_instance
instance barPayN_storable (c : Dev nD) : BI.Storable (upEmb : UEmb _ 𝕄) (barPayN (F := F) c) := by
  unfold barPayN; infer_instance
instance barPayP_storable (c : Dev nD) : BI.Storable (upEmb : UEmb _ 𝕄) (barPayP (F := F) c) := by
  unfold barPayP; infer_instance

/-- One round. The barrier has two duties — `false` of the successor, `true` of the predecessor; a copy semaphore has
    one. -/
def Rd : Rounds.Schedule (GSem nD τ sig) Bool 𝕄 where
  duties g r := if r = 0 ∧ g.1.2 = .tc then (if g.2 = .reg barS then Finset.univ else if (famOf g.2).isSome then {false} else ∅) else ∅
  unitless _ := False
  amount g _ _ := match famOf g.2 with | some p => amt p.1 | none => 1
  payload g _ d := match famOf g.2 with
    | some p => xpay X Wt p.1 p.2 g.1.1
    | none => if d then barPayP g.1.1 else barPayN g.1.1
  amount_pos g _ _ _ := by
    split
    · exact amt_pos _
    · exact Nat.one_pos

instance Rd_storable (g : GSem nD τ sig) (r : ℕ) (d : Bool) : BI.Storable (upEmb : UEmb _ 𝕄) ((Rd X Wt).payload g r d) := by
  show BI.Storable upEmb (match famOf g.2 with
    | some p => xpay X Wt p.1 p.2 g.1.1
    | none => if d then barPayP g.1.1 else barPayN g.1.1)
  (repeat' split) <;> infer_instance

variable (c : Dev nD)

theorem duties_bar : (Rd X Wt).duties (barCell c) 0 = Finset.univ := by
  dsimp only [Rd]; rw [if_pos ⟨rfl, rfl⟩, if_pos rfl]
theorem duties_x (f : Fin 6) (h : Fin 3) : (Rd X Wt).duties (xCell f h c) 0 = {false} := by
  dsimp only [Rd]; rw [if_pos ⟨rfl, rfl⟩, if_neg (fun h => by cases h), famOf_xsem]; rfl
theorem duties_later (g : GSem nD τ sig) : ∀ r, 1 ≤ r → (Rd X Wt).duties g r = ∅ :=
  fun r hr => if_neg fun h => by have := h.1; omega

theorem amount_bar (d : Bool) : (Rd X Wt).amount (barCell c) 0 d = 1 := rfl
theorem amount_x (f : Fin 6) (h : Fin 3) (d : Bool) : (Rd X Wt).amount (xCell f h c) 0 d = amt f := by
  dsimp only [Rd]; rw [famOf_xsem]

theorem payload_bar_false : (Rd X Wt).payload (barCell c) 0 false = barPayN c := rfl
theorem payload_bar_true : (Rd X Wt).payload (barCell c) 0 true = barPayP c := rfl
theorem payload_x (f : Fin 6) (h : Fin 3) (d : Bool) : (Rd X Wt).payload (xCell f h c) 0 d = xpay X Wt f h c := by
  dsimp only [Rd]; rw [famOf_xsem]

theorem expect_bar : (Rd X Wt).expect (barCell c) 0 = 2 := by
  unfold Schedule.expect Schedule.amountOf
  rw [duties_bar, Finset.sum_congr rfl fun d _ => amount_bar X Wt c d]; rfl
theorem expect_x (f : Fin 6) (h : Fin 3) : (Rd X Wt).expect (xCell f h c) 0 = amt f := by
  unfold Schedule.expect Schedule.amountOf; rw [duties_x, Finset.sum_singleton, amount_x]

/-- What the one wait on each cell brings. -/
theorem rest_bar : bigSep ((Rd X Wt).duties (barCell c) 0 \ ∅) (fun d => (Rd X Wt).payload (barCell c) 0 d)
    = iprop(barPayN c ∗ barPayP c) := by
  rw [Finset.sdiff_empty, duties_bar, bigSep_univ_eq_bigSepL [false, true] (by decide) (by decide), bigSepL_cons_cons, bigSepL_singleton,
    payload_bar_false, payload_bar_true]
  rfl
theorem rest_x (f : Fin 6) (h : Fin 3) :
    bigSep ((Rd X Wt).duties (xCell f h c) 0 \ ∅) (fun d => (Rd X Wt).payload (xCell f h c) 0 d) = xpay X Wt f h c := by
  rw [Finset.sdiff_empty, duties_x, bigSep_singleton, payload_x]

end Contents

/-! ## Debts and levels -/

/-- What device `c` owes for the copies in a list: each one's credit to its receiver's cell, the first to be paid first. -/
def debt (c : Dev nD) : List (Fin 6 × Fin 3) → CellTallies nD τ sig Unit
  | [] => 0
  | p :: l => debt c l + tallyAt (xCell p.1 p.2 (tgt p.1 p.2 c)) () (amt p.1)

/-- All the copies, in the order the kernel starts them. -/
abbrev allCopies : List (Fin 6 × Fin 3) := [(1, 0), (3, 0), (1, 1), (3, 1), (1, 2), (3, 2), (5, 0), (5, 1), (5, 2)]

/-- What device `c` owes at launch: the copies, and a unit to each neighbour's barrier. -/
def owe1 (c : Dev nD) : CellTallies nD τ sig Unit := debt c allCopies + tallyAt (barCell (nxt c)) () 1
def owe0 (c : Dev nD) : CellTallies nD τ sig Unit := owe1 c + tallyAt (barCell (prv c)) () 1

/-- The cells whose credit may be waited for: those of the TensorCores. -/
def L (g : GSem nD τ sig) : Finset Unit := if g.1.2 = .tc then {()} else ∅

/-- The level of a copy semaphore: sends lowest, then the receives hop by hop, the maxima last. -/
abbrev xlev (f : Fin 6) (h : Fin 3) : ℕ := if f.val = 5 then 5 else if f.val % 2 = 1 then 2 + h.val else 0
def lv (g : GSem nD τ sig) (_ : Unit) : ℕ :=
  if g.2 = .reg barS then 1 else match famOf g.2 with | some p => xlev p.1 p.2 | none => 0

theorem lv_bar (c : Dev nD) : lv (barCell c) () = 1 := if_pos rfl
theorem lv_x (f : Fin 6) (h : Fin 3) (c : Dev nD) : lv (xCell f h c) () = xlev f h := by
  unfold lv; rw [if_neg (fun h => by cases h), famOf_xsem]
theorem L_tc (c : Dev nD) (sm : SemLoc sig) : L ((c : Thread nD τ), sm) = {()} := if_pos rfl
theorem L_of_ne (g : GSem nD τ sig) (h : g.1.2 ≠ .tc) : L g = ∅ := if_neg h

theorem tally_pos {g g' : GSem nD τ sig} {u : Unit} {n : ℕ} (h : 0 < tallyAt (Ix := Unit) g' () n g u) : g = g' := by
  rw [tallyAt_apply] at h
  by_contra hn
  rw [if_neg (fun h' => hn h'.1)] at h
  exact Nat.lt_irrefl 0 h

/-- Where something is owed, some copy of the list is. -/
theorem debt_pos {c : Dev nD} : ∀ {l : List (Fin 6 × Fin 3)} {g : GSem nD τ sig} {u : Unit}, 0 < debt c l g u →
    ∃ p ∈ l, g = xCell p.1 p.2 (tgt p.1 p.2 c)
  | [], _, _, h => absurd h (Nat.lt_irrefl 0)
  | p :: l, g, u, h => by
    unfold debt at h
    rw [Pi.add_apply, Finsupp.add_apply] at h
    rcases Nat.eq_zero_or_pos (debt c l g u) with h0 | h0
    · rw [h0, Nat.zero_add] at h; exact ⟨p, List.mem_cons_self, tally_pos h⟩
    · obtain ⟨q, hq, e⟩ := debt_pos h0; exact ⟨q, List.mem_cons_of_mem _ hq, e⟩

theorem owe0_pos {c : Dev nD} {g : GSem nD τ sig} {u : Unit} (h : 0 < owe0 c g u) :
    (∃ d, g = barCell d) ∨ ∃ p ∈ allCopies, g = xCell p.1 p.2 (tgt p.1 p.2 c) := by
  unfold owe0 owe1 at h
  rw [Pi.add_apply, Finsupp.add_apply, Pi.add_apply, Finsupp.add_apply] at h
  rcases Nat.eq_zero_or_pos (debt c allCopies g u) with h0 | h0
  · rw [h0, Nat.zero_add] at h
    rcases Nat.eq_zero_or_pos (tallyAt (Ix := Unit) (barCell (nxt c)) () 1 g u) with h1 | h1
    · rw [h1, Nat.zero_add] at h; exact .inl ⟨_, tally_pos h⟩
    · exact .inl ⟨_, tally_pos h1⟩
  · exact .inr (debt_pos h0)

/-- A wait on a cell below everything still owed. -/
theorem mayWait_debt (c : Dev nD) (sm : SemLoc sig) (l : List (Fin 6 × Fin 3))
    (hl : ∀ p ∈ l, lv ((c : Thread nD τ), sm) () < xlev p.1 p.2) :
    (levAts L lv : sProp 𝕄) ⊢ MayWait (c : Thread nD τ) sm () (debt c l) :=
  MayOwe.of_cut (L := L) (lev := lv) (lv ((c : Thread nD τ), sm) ())
    (fun p hp => by rw [Finset.mem_singleton.mp hp, L_tc]; exact Finset.mem_singleton_self _)
    (fun g u hg => by obtain ⟨p, -, rfl⟩ := debt_pos hg; exact Finset.mem_singleton_self _)
    (fun p hp => by rw [Finset.mem_singleton.mp hp])
    (fun g u hg => by obtain ⟨p, hp, rfl⟩ := debt_pos hg; rw [lv_x]; exact hl p hp)

/-- The pipeline's waits on its staging semaphores, before and after the body. -/
theorem mayWait_stage (c : Dev nD) (q : DmaSem sig) (hq : lv ((c : Thread nD τ), .dma q) () = 0) (O : CellTallies nD τ sig Unit)
    (hO : O = owe0 c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owe0_pos hg with ⟨d, rfl⟩ | ⟨p, -, rfl⟩ <;> exact Finset.mem_singleton_self _)
      (fun p hp => by rw [Finset.mem_singleton.mp hp]; exact hq.le)
      (fun g u hg => by
        rcases owe0_pos hg with ⟨d, rfl⟩ | ⟨p, hp, rfl⟩
        · rw [lv_bar]; decide
        · rw [lv_x]; clear hg; revert p; decide)
  · rw [MayWait_zero]; iintro -; iempintro

end Cert.Ring
-- ==== Proof.Steps.lean ====
/-
# 01_k — one rule for each kind of step

A wait on a copy semaphore, the start of a copy, a load of a whole operand, and a store of rows of the product, each
stated once for every semaphore, hop and row block.
-/
module

public import proofs.«01_k».proof.Proof.Protocol
public import Idealize.ShloMosaic.Lib.Writes
public import Idealize.ShloMosaic.Lib.WritesUnit
public import Idealize.ShloMosaic.Lib.Tactic

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S1024x4096 .bf16) (Wt : Dev nD → Vec F S4096x512 .bf16)
variable (K : Dev nD × Option (Fin 6 × Fin 3) → ℕ)

/-! ## What every step may use -/

/-- The invariants of all the cells, at the names the launch gave them; that each is at its first round; the levels. -/
def Rec : sProp 𝕄 :=
  iprop((bigSep Finset.univ fun ck : Dev nD × Option (Fin 6 × Fin 3) =>
      iprop(cellInv ER (Rd X Wt) (K ck) (kcell ck) ∗ reached ER (kcell ck) 0)) ∗ levAts L lv)

instance Rec_persistent : BI.Persistent (Rec X Wt K) := by unfold Rec; infer_instance

theorem Rec_at (ck : Dev nD × Option (Fin 6 × Fin 3)) :
    Rec X Wt K ⊢ iprop(cellInv ER (Rd X Wt) (K ck) (kcell ck) ∗ reached ER (kcell ck) 0) := by
  unfold Rec
  rw [bigSep_univ_at _ ck]
  iintro ⟨⟨H, -⟩, -⟩
  iexact H

theorem Rec_levels : Rec X Wt K ⊢ levAts L lv := by
  unfold Rec
  iintro ⟨-, H⟩
  iexact H

/-- What is owed, whatever has been waited for. -/
def ow (c : Dev nD) (O : CellTallies nD τ sig Unit) : sProp 𝕄 := iprop(∃ W, owes (c : Thread nD τ) O W)

/-- A copy semaphore with a copy under way that its device may wait for. -/
def pend (f : Fin 6) (h : Fin 3) (c : Dev nD) : sProp 𝕄 :=
  iprop(atPos ER (xCell f h c) 0 ∅ 0 ∗ cred (tallyAt (xCell f h c) () (amt f)))

/-- What the start of a copy spends: the place at its send semaphore `f`, and the duties of the send and of the receive
    semaphore `fr`. -/
def ready (f fr : Fin 6) (h : Fin 3) (c : Dev nD) : sProp 𝕄 :=
  iprop(atPos ER (xCell f h c) 0 ∅ 0 ∗ dutyTok ER (xCell f h c) 0 false ∗ dutyTok ER (xCell fr h (tgt fr h c)) 0 false)

/-- A copy semaphore that is done with: at zero. -/
def done (f : Fin 6) (h : Fin 3) (c : Dev nD) : sProp 𝕄 := semVal (xCell f h c) 0

/-! ## The rules -/

section Rules

variable (c : Dev nD) {α : Type} {Q : α → sProp (MT nD τ sig Unit (Elt F) ℕ UU ℕ)}
variable {k : PUnit → Prog (TpuEff nD τ sig (Elt F) Λ₀ .tc) α}

/-- The one wait on a copy semaphore: what was promised with it, and the semaphore at zero. -/
theorem wp_wait_x (f : Fin 6) (h : Fin 3) (l : List (Fin 6 × Fin 3)) (hl : ∀ p ∈ l, xlev f h < xlev p.1 p.2)
    {sp sp' : Space} {s s' : Shape} {e e' : EltTy} {src : Memref sig .tc sp' s' e'} {dst : Memref sig .tc sp s e}
    {hsrc : src.view.WordExact} {hdst : dst.view.WordExact} (hN : dst.view.dmaCredit = amt f) :
    iprop(Rec X Wt K ∗ pend f h c ∗ ow c (debt c l))
      ⊢ iprop(((xpay X Wt f h c ∗ done f h c ∗ ow c (debt c l)) -∗ wp frame (wpE (defs₀ (F := F)) 𝒱₀ c none) Set.univ (k ⟨⟩) Q)
          -∗ wp frame (wpE (defs₀ (F := F)) 𝒱₀ c none) Set.univ (.op (.waitDma2 (xsem f h) src dst hsrc hdst) k) Q) := by
  unfold pend ow done
  iintro ⟨#HR, ⟨Hat, Hcr⟩, ⟨%W, HO⟩⟩ Hk
  ihave #Hc := (Rec_at X Wt K (c, some (f, h))) $$ HR
  icases Hc with ⟨#HI, -⟩
  iapply (Rounds.wp_wait_rest_token 𝒱₀ ER (Rd X Wt) (c : Thread nD τ) none (κ := K (c, some (f, h)))
      (wpE_waitDma2_eq 𝒱₀ (c : Thread nD τ) none Set.univ) (Set.mem_univ _) () (O := debt c l) (W := W) (R := 0) (m := 0) (T := ∅)
      (by rw [Nat.zero_add, hN]; exact (expect_x X Wt c f h).symm)) $$ [Hat Hcr HO]
  · isplitr; · iexact HI
    isplitl [Hcr]; · rw [hN]; iexact Hcr
    isplitl [HO]; · iexact HO
    isplitr
    · iapply (mayWait_debt c (.dma (xsem f h)) l (fun p hp => (lv_x f h c).trans_lt (hl p hp)))
      iapply (Rec_levels X Wt K); iexact HR
    iexact Hat
  iintro ⟨HO, Hat, -, Hpay⟩
  ihave Hp := (Entails.of_eq (rest_x X Wt c f h)) $$ Hpay
  imod (Rounds.cell_close ER (Rd X Wt) (Set.mem_univ (K (c, some (f, h)))) (fun h => h) (R := 0 + 1) (duties_later X Wt (xCell f h c))) $$ [Hat] with Hz
  · isplitr; · iexact HI
    iexact Hat
  iapply Hk
  isplitl [Hp]; · iexact Hp
  isplitl [Hz]; · iexact Hz
  iexists _; iexact HO

/-- The start of a copy from `src`, owned at share `q`, to `dst` of device `n`, with `G` handed over besides. -/
theorem wp_send_x (f fr : Fin 6) (h : Fin 3) (l : List (Fin 6 × Fin 3)) (n : Dev nD) (hn : n = tgt fr h c) (hf : amt f = amt fr)
    {s : Shape} {e : EltTy} {src dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma (xsem fr h))
      (.remote (Dev.tc n : Thread nD τ) (dst : Memref sig (Dev.tc n : Thread nD τ).2.kind .vmem s e) (.dma (xsem f h)) hsc)}
    (q : PosShare TreeShare) (B : s.Idx → Elt F e) (G : sProp 𝕄) (hN : dst.view.dmaCredit = amt fr)
    (hpay₁ : (owns (c : Thread nD τ) src q B : sProp 𝕄) ⊢ xpay X Wt f h c)
    (hpay₂ : (iprop(owns (tgt fr h c : Thread nD τ) dst fullShare B ∗ G) : sProp 𝕄) ⊢ xpay X Wt fr h (tgt fr h c)) :
    iprop(Rec X Wt K ∗ ready f fr h c ∗ owns (c : Thread nD τ) src q B ∗ free (tgt fr h c) dst ∗ G ∗ ow c (debt c ((fr, h) :: l)))
      ⊢ iprop(((pend f h c ∗ ow c (debt c l)) -∗ wp frame (wpE (defs₀ (F := F)) 𝒱₀ c none) Set.univ (k ⟨⟩) Q)
          -∗ wp frame (wpE (defs₀ (F := F)) 𝒱₀ c none) Set.univ
              (.op (.enqueueDma src (.remote (Dev.tc n : Thread nD τ) dst (.dma (xsem f h)) hsc) (.dma (xsem fr h)) hsrc hdst hsem) k) Q) := by
  subst hn
  unfold pend ow ready
  iintro ⟨#HR, ⟨Hat, Ht1, Ht2⟩, Hs, ⟨%Z, Hd⟩, HG, ⟨%W, HO⟩⟩ Hk
  ihave #Hc1 := (Rec_at X Wt K (c, some (f, h))) $$ HR
  icases Hc1 with ⟨#HI1, #Hr1⟩
  ihave #Hc2 := (Rec_at X Wt K (tgt fr h c, some (fr, h))) $$ HR
  icases Hc2 with ⟨#HI2, #Hr2⟩
  iapply (wp_copy_owns (c : Thread nD τ) 𝒱₀ none ER (Rd X Wt) (c' := (tgt fr h c : Thread nD τ)) (κ₁ := K (c, some (f, h))) (κ₂ := K (tgt fr h c, some (fr, h)))
    (d₁ := false) (d₂ := false) (q := q) (X := B) (Z := Z) (F := G) (sS := .dma (xsem f h)) (sem := .dma (xsem fr h)) (O := debt c l) (W := W)
    (by rw [duties_x]; exact Finset.mem_singleton_self _) (by rw [duties_x]; exact Finset.mem_singleton_self _)
    () (amt fr) hN ((amount_x X Wt c f h false).trans hf) (amount_x X Wt (tgt fr h c) fr h false)
    (hpay₁.trans (Entails.of_eq (payload_x X Wt c f h false).symm))
    (hpay₂.trans (Entails.of_eq (payload_x X Wt (tgt fr h c) fr h false).symm)) (by routes)) $$ [Hs Hd HG HO Ht1 Ht2]
  · isplitr; · iexact HI1
    isplitr; · iexact HI2
    isplitl [Hs]; · iexact Hs
    isplitl [Hd]; · iexact Hd
    isplitl [HG]; · iexact HG
    isplitl [HO]; · iexact HO
    isplitl [Ht1]; · iexact Ht1
    isplitr; · iexact Hr1
    isplitl [Ht2]; · iexact Ht2
    iexact Hr2
  iintro ⟨Hcr, HO⟩
  iapply Hk
  isplitl [Hat Hcr]
  · isplitl [Hat]; · iexact Hat
    rw [hf]; iexact Hcr
  iexists W; iexact HO

end Rules

/-! ## The product, filled row block by row block -/

theorem hz2 : (![0, 0] : Fin 2 → Nat) = fun _ => 0 := funext fun a => by fin_cases a <;> rfl

theorem accV_own (c : Dev nD) (i : S4096x512.Idx) (r : Fin 1024) (hi : (i 0).val = 1024 * c.val + r.val) :
    accV X Wt c i = k0_pay2 (X c) (Wt c) (ix2 r (i 1)) := by
  have h1 := r.isLt
  unfold accV
  rw [if_pos (Fin.ext (show (i 0).val / 1024 = c.val by omega))]
  exact congrArg (fun a => k0_pay2 (X c) (Wt c) (ix2 a (i 1))) (Fin.ext (show (i 0).val % 1024 = r.val by omega))

theorem accV_upper (c o : Dev nD) (ho : o ≠ c) (i : S4096x512.Idx) (r : Fin 512) (hi : (i 0).val = 1024 * o.val + r.val) :
    accV X Wt c i = prod Wt (half (X o) 0) c (ix2 r (i 1)) := by
  have h1 := r.isLt
  have e : (⟨(i 0).val / 1024, by have : (i 0).val < 4096 := (i 0).isLt; show (i 0).val / 1024 < 4; omega⟩ : Dev nD) = o :=
    Fin.ext (show (i 0).val / 1024 = o.val by omega)
  unfold accV
  simp only [e]
  rw [if_neg ho, if_pos (by omega)]
  exact congrArg (fun a => prod Wt (half (X o) 0) c (ix2 a (i 1))) (Fin.ext (show (i 0).val % 512 = r.val by omega))

theorem accV_lower (c o : Dev nD) (ho : o ≠ c) (i : S4096x512.Idx) (r : Fin 512) (hi : (i 0).val = 1024 * o.val + 512 + r.val) :
    accV X Wt c i = prod Wt (half (X o) 1) c (ix2 r (i 1)) := by
  have h1 := r.isLt
  have e : (⟨(i 0).val / 1024, by have : (i 0).val < 4096 := (i 0).isLt; show (i 0).val / 1024 < 4; omega⟩ : Dev nD) = o :=
    Fin.ext (show (i 0).val / 1024 = o.val by omega)
  unfold accV
  simp only [e]
  rw [if_neg ho, if_neg (by omega)]
  exact congrArg (fun a => prod Wt (half (X o) 1) c (ix2 a (i 1))) (Fin.ext (show (i 0).val % 512 = r.val by omega))

/-- The result buffer, holding the values `V` in the bands of 512 rows listed. -/
def held (V : Vec F S4096x512 .f32) (c : Dev nD) (P : List ℕ) : sProp 𝕄 :=
  iprop(∃ Z, ⌜∀ i : S4096x512.Idx, (i 0).val / 512 ∈ P → Z i = V i⌝ ∗ owns (c : Thread nD τ) oM fullShare Z)

section Product

variable (V : Vec F S4096x512 .f32) (c : Dev nD) {α : Type} {Q : α → sProp (MT nD τ sig Unit (Elt F) ℕ UU ℕ)}

/-- A load of the result buffer, whatever it reads. -/
theorem wp_load_held (P : List ℕ) {r : Rect S4096x512} {hl : oM.view.LoadsAt r}
    {k : (r.shape.Idx → Elt F .f32) → Prog (TpuEff nD τ sig (Elt F) Λ₀ .tc) α} :
    held V c P
      ⊢ iprop((∀ v, held V c P -∗ wp frame (wpE (defs₀ (F := F)) 𝒱₀ c none) Set.univ (k v) Q)
          -∗ wp frame (wpE (defs₀ (F := F)) 𝒱₀ c none) Set.univ (.op (.load oM r hl) k) Q) := by
  unfold held
  iintro ⟨%Z, %hZ, H⟩ Hk
  iapply (wp_load_owns (c : Thread nD τ) 𝒱₀ none (m := oM)) $$ H
  iintro H
  iapply Hk
  iexists Z
  isplitr; · ipureintro; exact hZ
  iexact H

/-- A store of `n` bands of rows from band `b` on, with those values. -/
theorem wp_store_held (P P' : List ℕ) (b n : ℕ) {off size : Fin 2 → ℕ} {inb : ∀ a : Fin 2, off a + size a ≤ S4096x512.size a}
    {w : (Rect.unit (s := S4096x512) off size inb).shape.Idx → Elt F .f32}
    {hx : (oM.access (Rect.unit (s := S4096x512) off size inb)).Stores Finset.univ}
    {hm : Finset.univ = Finset.univ ∨ ∀ x, (Rect.unit (s := S4096x512) off size inb).stride x = 1}
    {k : PUnit → Prog (TpuEff nD τ sig (Elt F) Λ₀ .tc) α}
    (hoff : off = ![512 * b, 0]) (hW : size 0 = 512 * n) (hD : size 1 = 512)
    (hw : ∀ (x : (Rect.unit (s := S4096x512) off size inb).shape.Idx) (i : S4096x512.Idx),
      (i 0).val = 512 * b + (x 0).val → (i 1).val = (x 1).val → w x = V i)
    (hP : ∀ p ∈ P', p ∈ P ∨ (b ≤ p ∧ p < b + n)) :
    held V c P
      ⊢ iprop((held V c P' -∗ wp frame (wpE (defs₀ (F := F)) 𝒱₀ c none) Set.univ (k ⟨⟩) Q)
          -∗ wp frame (wpE (defs₀ (F := F)) 𝒱₀ c none) Set.univ
            (.op (.store oM (Rect.unit (s := S4096x512) off size inb) w Finset.univ hx hm) k) Q) := by
  unfold held owns
  iintro ⟨%Z, %hZ, %f, %hf, H⟩ Hk
  iapply (wp_store_writes₀ 𝒱₀ (c : Thread nD τ) none Set.univ (m := oM) (r := Rect.unit (s := S4096x512) off size inb) (w := w) (hx := hx) (hm := hm)
    (k := k) (f := f) (S := oM.view.set) (by rw [View.set_whole]; exact Finset.subset_univ _)) $$ H
  iintro H
  iapply Hk
  iexists (oM.view.read (Elt F) (oM.view.writes (Elt F) f [(⟨Rect.unit (s := S4096x512) off size inb, w⟩ : View.Piece (Elt F) S4096x512 .f32)]))
  isplitr
  rotate_left
  · iexists (oM.view.writes (Elt F) f [(⟨Rect.unit (s := S4096x512) off size inb, w⟩ : View.Piece (Elt F) S4096x512 .f32)])
    isplitr
    · ipureintro; rfl
    iexact H
  · ipureintro
    intro i hi
    rw [View.read_writes_cons_rows oM.view f inb w [] i hoff hW hD]
    by_cases hin : 512 * b ≤ (i 0).val ∧ (i 0).val < 512 * b + 512 * n
    · rw [dif_pos hin]
      refine hw _ i ?_ ?_
      · show (i 0).val = 512 * b + ((i 0).val - 512 * b); omega
      · show (i 1).val = (i 1).val - 0; omega
    · rw [dif_neg hin]
      have : (i 0).val / 512 ∈ P := by
        rcases hP _ hi with h | ⟨h1, h2⟩
        · exact h
        · exact absurd ⟨by omega, by omega⟩ hin
      rw [← hZ i this, ← hf]; rfl

/-- Nothing is asked of the buffer where no band is listed. -/
theorem held_of_owns (Z : Vec F S4096x512 .f32) : (owns (c : Thread nD τ) oM fullShare Z : sProp 𝕄) ⊢ held V c [] := by
  unfold held
  iintro H
  iexists Z
  isplitr; · ipureintro; exact fun i hi => absurd hi List.not_mem_nil
  iexact H

/-- All eight bands are the whole buffer. -/
theorem owns_of_held (P : List ℕ) (hP : ∀ b : Fin 8, b.val ∈ P) : held V c P ⊢ owns (c : Thread nD τ) oM fullShare V := by
  unfold held
  iintro ⟨%Z, %hZ, H⟩
  have e : Z = V := funext fun i => hZ i (hP ⟨(i 0).val / 512, by have : (i 0).val < 4096 := (i 0).isLt; omega⟩)
  subst e
  iexact H

/-- A load of a matrix whole. -/
theorem wp_load_whole {d : Fin 2 → ℕ} {e : EltTy} (m : Memref sig .tc .vmem ⟨2, d⟩ e) (q : PosShare TreeShare)
    (B : (⟨2, d⟩ : Shape).Idx → Elt F e) {inb : ∀ a : Fin 2, ![0, 0] a + d a ≤ d a}
    {hl : m.view.LoadsAt (Rect.unit (s := ⟨2, d⟩) ![0, 0] d inb)}
    {k : ((⟨2, d⟩ : Shape).Idx → Elt F e) → Prog (TpuEff nD τ sig (Elt F) Λ₀ .tc) α} :
    (owns (c : Thread nD τ) m q B : sProp 𝕄)
      ⊢ iprop((owns (c : Thread nD τ) m q B -∗ wp frame (wpE (defs₀ (F := F)) 𝒱₀ c none) Set.univ (k B) Q)
          -∗ wp frame (wpE (defs₀ (F := F)) 𝒱₀ c none) Set.univ
            (.op (.load m (Rect.unit (s := ⟨2, d⟩) ![0, 0] d inb) hl) k) Q) := by
  have e : (fun j => B ((Rect.unit (s := ⟨2, d⟩) ![0, 0] d inb).emb j)) = B :=
    funext fun j => congrArg B (funext fun a => Fin.ext (by
      show ![0, 0] a + 1 * (j a).val = (j a).val
      exact (congrArg (· + 1 * (j a).val) (congrFun hz2 a)).trans (by show 0 + 1 * (j a).val = (j a).val; omega)))
  have := wp_load_owns (c : Thread nD τ) 𝒱₀ none (defs := defs₀ (F := F)) (Γ := ∅) (m := m) (r := (Rect.unit (s := ⟨2, d⟩) ![0, 0] d inb)) (hl := hl)
    (k := k) (q := q) (X := B) (Es := Set.univ) (Q := Q) (Ix := Unit) (Name := ℕ) (U := UU) (Lvl := ℕ)
  rw [e] at this
  exact this

end Product

end Cert.Ring
-- ==== Proof.Facts.lean ====
/-
# 01_k — facts the parts of the program share

The devices and rows the program's words name; that what is sent is what its receiver is promised; that what is stored
is the product; operands split into shares and halves.
-/
module

public import proofs.«01_k».proof.Proof.Steps

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x4096 .bf16) (Wt : Dev nD → Vec F S4096x512 .bf16)
variable (K : Dev nD × Option (Fin 6 × Fin 3) → ℕ) (c : Dev nD)

/-! ## Where the kernel's words point -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = tgt 1 0 c := by revert c; decide +kernel
theorem dev4_eq (c : Dev nD) : (⟨k0_dev4 c, k0_dev4_lt c⟩ : Dev nD) = tgt 3 0 c := by revert c; decide +kernel
theorem dev5_eq (c : Dev nD) : (⟨k0_dev5 c, k0_dev5_lt c⟩ : Dev nD) = tgt 1 1 c := by revert c; decide +kernel
theorem dev6_eq (c : Dev nD) : (⟨k0_dev6 c, k0_dev6_lt c⟩ : Dev nD) = tgt 3 1 c := by revert c; decide +kernel
theorem dev7_eq (c : Dev nD) : (⟨k0_dev7 c, k0_dev7_lt c⟩ : Dev nD) = tgt 1 2 c := by revert c; decide +kernel
theorem dev8_eq (c : Dev nD) : (⟨k0_dev8 c, k0_dev8_lt c⟩ : Dev nD) = tgt 3 2 c := by revert c; decide +kernel
theorem dev9_eq (c : Dev nD) : (⟨k0_dev9 c, k0_dev9_lt c⟩ : Dev nD) = tgt 5 0 c := by revert c; decide +kernel
theorem dev10_eq (c : Dev nD) : (⟨k0_dev10 c, k0_dev10_lt c⟩ : Dev nD) = tgt 5 1 c := by revert c; decide +kernel
theorem dev11_eq (c : Dev nD) : (⟨k0_dev11 c, k0_dev11_lt c⟩ : Dev nD) = tgt 5 2 c := by revert c; decide +kernel

theorem off1_eq (c : Dev nD) : k0_off1 c = ![512 * (2 * c.val), 0] := by revert c; decide +kernel
theorem off2_eq (h : Fin 3) (c : Dev nD) : k0_off2 c (BitVec.ofNat 32 h.val) = ![512 * (2 * (cwSrc h c).val), 0] := by
  revert h c; decide +kernel
theorem off3_eq (h : Fin 3) (c : Dev nD) : k0_off3 c (BitVec.ofNat 32 h.val) = ![512 * (2 * (ccwSrc h c).val + 1), 0] := by
  revert h c; decide +kernel

theorem cwSrc_ne (h : Fin 3) (c : Dev nD) : cwSrc h c ≠ c := by revert h c; decide
theorem ccwSrc_ne (h : Fin 3) (c : Dev nD) : ccwSrc h c ≠ c := by revert h c; decide
theorem two_nxt (c : Dev nD) : ahead 2 (nxt c) = prv c := by revert c; decide

/-- The bands of 512 rows in the order the kernel fills them. -/
abbrev bands (c : Dev nD) : List ℕ :=
  [2 * c.val, 2 * c.val + 1, 2 * (cwSrc 0 c).val, 2 * (ccwSrc 0 c).val + 1, 2 * (cwSrc 1 c).val, 2 * (ccwSrc 1 c).val + 1,
    2 * (cwSrc 2 c).val, 2 * (ccwSrc 2 c).val + 1]

theorem bands_own (c : Dev nD) : ∀ p ∈ (bands c).take 2, p ∈ (bands c).take 0 ∨ (2 * c.val ≤ p ∧ p < 2 * c.val + 2) := by
  revert c; decide
theorem bands_cw (h : Fin 3) (c : Dev nD) : ∀ p ∈ (bands c).take (2 * h.val + 3), p ∈ (bands c).take (2 * h.val + 2)
    ∨ (2 * (cwSrc h c).val ≤ p ∧ p < 2 * (cwSrc h c).val + 1) := by
  revert h c; decide
theorem bands_ccw (h : Fin 3) (c : Dev nD) : ∀ p ∈ (bands c).take (2 * h.val + 4), p ∈ (bands c).take (2 * h.val + 3)
    ∨ (2 * (ccwSrc h c).val + 1 ≤ p ∧ p < 2 * (ccwSrc h c).val + 1 + 1) := by
  revert h c; decide
theorem bands_all (c : Dev nD) (b : Fin 8) : b.val ∈ bands c := by revert c b; decide

/-! ## What is sent is what the receiver is promised -/

theorem cwV_first : cwV X 0 (nxt c) = half (X c) 0 := by
  unfold cwV; rw [show cwSrc 0 (nxt c) = c from by revert c; decide]
theorem cwV_second : cwV X 1 (nxt c) = cwV X 0 c := by
  unfold cwV; rw [show cwSrc 1 (nxt c) = cwSrc 0 c from by revert c; decide]
theorem cwV_third : cwV X 2 (nxt c) = cwV X 1 c := by
  unfold cwV; rw [show cwSrc 2 (nxt c) = cwSrc 1 c from by revert c; decide]
theorem ccwV_first : ccwV X 0 (prv c) = half (X c) 1 := by
  unfold ccwV; rw [show ccwSrc 0 (prv c) = c from by revert c; decide]
theorem ccwV_second : ccwV X 1 (prv c) = ccwV X 0 c := by
  unfold ccwV; rw [show ccwSrc 1 (prv c) = ccwSrc 0 c from by revert c; decide]
theorem ccwV_third : ccwV X 2 (prv c) = ccwV X 1 c := by
  unfold ccwV; rw [show ccwSrc 2 (prv c) = ccwSrc 1 c from by revert c; decide]
theorem amSrc_sent (h : Fin 3) : amSrc h.succ (ahead (h.val + 1) c) = c := by revert h c; decide

/-- Handing over nothing besides. -/
theorem drop_emp {P Q : sProp (MT nD τ sig Unit (Elt F) ℕ UU ℕ)} (h : P ⊢ Q) : iprop(P ∗ emp) ⊢ Q := by
  iintro ⟨H, -⟩
  iapply h; iexact H

theorem give_x1 (h : Fin 3) (B : Vec F S512x4096 .bf16) (n : Dev nD) (hh : h ≠ 0) (e : cwV X h n = B) :
    (iprop(owns (n : Thread nD τ) (cwSlot h) fullShare B ∗ emp) : sProp 𝕄) ⊢ xpay X Wt 1 h n := by
  subst e
  refine drop_emp ?_
  match h, hh with
  | 1, _ => exact Idealize.SL.BI.Entails.refl _
  | 2, _ => exact Idealize.SL.BI.Entails.refl _
theorem give_x3 (h : Fin 3) (B : Vec F S512x4096 .bf16) (n : Dev nD) (e : ccwV X h n = B) :
    (iprop(owns (n : Thread nD τ) (ccwSlot h) fullShare B ∗ emp) : sProp 𝕄) ⊢ xpay X Wt 3 h n := by
  subst e
  exact drop_emp (Idealize.SL.BI.Entails.refl _)
theorem give_x5 (h : Fin 3) (c n : Dev nD) (e : amSrc h.succ n = c) :
    (iprop(owns (n : Thread nD τ) (amSlot h.succ) fullShare (amV X Wt c) ∗ emp) : sProp 𝕄) ⊢ xpay X Wt 5 h n := by
  subst e
  exact drop_emp (Idealize.SL.BI.Entails.refl _)

/-! ## What is stored is the product -/

theorem own_rows (x : S1024x512.Idx) (i : S4096x512.Idx) (h0 : (i 0).val = 512 * (2 * c.val) + (x 0).val) (h1 : (i 1).val = (x 1).val) :
    k0_pay2 (X c) (Wt c) x = accV X Wt c i := by
  rw [accV_own X Wt c i (x 0) (by omega), show i 1 = x 1 from Fin.ext h1]
  exact congrArg (k0_pay2 (X c) (Wt c)) (eq_ix2 x)
theorem upper_rows (h : Fin 3) (x : S512x512.Idx) (i : S4096x512.Idx) (h0 : (i 0).val = 512 * (2 * (cwSrc h c).val) + (x 0).val)
    (h1 : (i 1).val = (x 1).val) : k0_pay4 (up (cwV X h c)) (Wt c) x = accV X Wt c i := by
  rw [accV_upper X Wt c (cwSrc h c) (cwSrc_ne h c) i (x 0) (by omega), show i 1 = x 1 from Fin.ext h1]
  exact congrArg (k0_pay4 (up (cwV X h c)) (Wt c)) (eq_ix2 x)
theorem lower_rows (h : Fin 3) (x : S512x512.Idx) (i : S4096x512.Idx) (h0 : (i 0).val = 512 * (2 * (ccwSrc h c).val + 1) + (x 0).val)
    (h1 : (i 1).val = (x 1).val) : k0_pay4 (up (ccwV X h c)) (Wt c) x = accV X Wt c i := by
  rw [accV_lower X Wt c (ccwSrc h c) (ccwSrc_ne h c) i (x 0) (by omega), show i 1 = x 1 from Fin.ext h1]
  exact congrArg (k0_pay4 (up (ccwV X h c)) (Wt c)) (eq_ix2 x)

/-- A load of a slot of either stack. -/
theorem wp_load_half (M : Memref sig .tc .vmem S3x512x4096 .bf16) (h : Fin 3) {hl : M.view.LoadsAt (slotRect 3 512 4096 h)} {α : Type}
    {Q : α → sProp (MT nD τ sig Unit (Elt F) ℕ UU ℕ)} {k : Vec F S1x512x4096 .bf16 → Prog (TpuEff nD τ sig (Elt F) Λ₀ .tc) α}
    {q : PosShare TreeShare} {B : Vec F S512x4096 .bf16} :
    (owns (c : Thread nD τ) (slot M squeezes_S1x512x4096_S512x4096 h) q B : sProp 𝕄)
      ⊢ iprop((owns (c : Thread nD τ) (slot M squeezes_S1x512x4096_S512x4096 h) q B
            -∗ wp frame (wpE (defs₀ (F := F)) 𝒱₀ c none) Set.univ (k (up B)) Q)
          -∗ wp frame (wpE (defs₀ (F := F)) 𝒱₀ c none) Set.univ (.op (.load M (slotRect 3 512 4096 h) hl) k) Q) :=
  wp_load_slot (c : Thread nD τ) 𝒱₀ none squeezes_S1x512x4096_S512x4096 h

/-! ## Operands and slots by shares -/

theorem owns_split {s : Shape} {e : EltTy} (M : Memref sig .tc .vmem s e) (q : PosShare TreeShare) (B : s.Idx → Elt F e) :
    (owns (c : Thread nD τ) M q B : sProp 𝕄) ⊢ iprop(owns (c : Thread nD τ) M q.left B ∗ owns (c : Thread nD τ) M q.right B) :=
  (owns_halves (c : Thread nD τ) M q B).1
theorem owns_unsplit {s : Shape} {e : EltTy} (M : Memref sig .tc .vmem s e) (q : PosShare TreeShare) (B : s.Idx → Elt F e) :
    (iprop(owns (c : Thread nD τ) M q.left B ∗ owns (c : Thread nD τ) M q.right B) : sProp 𝕄) ⊢ owns (c : Thread nD τ) M q B :=
  (owns_halves (c : Thread nD τ) M q B).2

theorem halfRect_disjoint (t t' : Fin 2) (hne : t ≠ t') : Disjoint (halfRect t).set (halfRect t').set := by
  rw [Finset.disjoint_left]
  intro y hy hy'
  rw [← Rect.map_emb_univ, Finset.mem_map] at hy hy'
  obtain ⟨j, -, rfl⟩ := hy
  obtain ⟨j', -, hj⟩ := hy'
  have h : 512 * t'.val + 1 * (j' 0).val = 512 * t.val + 1 * (j 0).val := congrArg Fin.val (congrFun hj 0)
  have h1 : (j 0).val < 512 := (j 0).isLt
  have h2 : (j' 0).val < 512 := (j' 0).isLt
  exact hne (Fin.ext (by omega))
theorem halfRect_cover : (Finset.univ : Finset (Fin 2)).biUnion (fun t => (halfRect t).set) = Finset.univ := by
  refine Finset.eq_univ_of_forall fun y => Finset.mem_biUnion.mpr ?_
  have hy : (y 0).val < 1024 := (y 0).isLt
  refine ⟨⟨(y 0).val / 512, by omega⟩, Finset.mem_univ _, ?_⟩
  rw [← Rect.map_emb_univ, Finset.mem_map]
  refine ⟨ix2 (⟨(y 0).val % 512, Nat.mod_lt _ (by decide)⟩ : Fin 512) (y 1), Finset.mem_univ _, funext fun a => ?_⟩
  match a with
  | ⟨0, _⟩ => exact Fin.ext (show 512 * ((y 0).val / 512) + 1 * ((y 0).val % 512) = (y 0).val by omega)
  | ⟨1, _⟩ => exact Fin.ext (show 0 + 1 * (y 1).val = (y 1).val by omega)

theorem x_halves (q : PosShare TreeShare) (B : Vec F S1024x4096 .bf16) :
    (owns (c : Thread nD τ) xM q B : sProp 𝕄)
      ⊢ iprop(owns (c : Thread nD τ) (xHalf 0) q (half B 0) ∗ owns (c : Thread nD τ) (xHalf 1) q (half B 1)) :=
  (owns_rects (c : Thread nD τ) xM q halfRect (fun _ _ => rfl) halfRect_disjoint halfRect_cover B).trans
    (Entails.of_eq (bigSep_fin_two _))
theorem x_unhalve (q : PosShare TreeShare) (B : Vec F S1024x4096 .bf16) :
    (iprop(owns (c : Thread nD τ) (xHalf 0) q (half B 0) ∗ owns (c : Thread nD τ) (xHalf 1) q (half B 1)) : sProp 𝕄)
      ⊢ owns (c : Thread nD τ) xM q B :=
  (Entails.of_eq (bigSep_fin_two (fun t : Fin 2 => (owns (c : Thread nD τ) (xHalf t) q (half B t) : sProp 𝕄))).symm).trans
    (owns_of_rects (c : Thread nD τ) xM q halfRect (fun _ _ => rfl) halfRect_disjoint halfRect_cover B)

end Cert.Ring
-- ==== Proof.Parts.lean ====
/-
# 01_k — the program on one device, part by part

Each lemma here runs one part of the program on device `c` from what the part uses to what it leaves.
-/
module

public import proofs.«01_k».proof.Proof.Facts

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x4096 .bf16) (Wt : Dev nD → Vec F S4096x512 .bf16)
variable (K : Dev nD × Option (Fin 6 × Fin 3) → ℕ) (c : Dev nD)

/-- The handshake: the device's stacks and slots for the maxima go to its neighbours, theirs come to it. -/
theorem part1_run (Q : (Σ' (d0 : Dev nD) (v2 : BitVec 32) (v13 : BitVec 32), BitVec 32) → sProp (MT nD τ sig Unit (Elt F) ℕ UU ℕ)) :
    iprop(Rec X Wt K ∗ dutyTok ER (barCell (prv c)) 0 false ∗ dutyTok ER (barCell (nxt c)) 0 true ∗ atPos ER (barCell c) 0 ∅ 0
        ∗ cred (tallyAt (barCell c) () 2) ∗ ow c (owe0 c)
        ∗ free c (cwSlot 0) ∗ free c (cwSlot 1) ∗ free c (cwSlot 2) ∗ free c (amSlot 1)
        ∗ free c (ccwSlot 0) ∗ free c (ccwSlot 1) ∗ free c (ccwSlot 2) ∗ free c (amSlot 3) ∗ free c (amSlot 2)
        ∗ (∀ w2 w13 w24, iprop(barPayN c ∗ barPayP c ∗ semVal (barCell c) 0 ∗ ow c (debt c allCopies)) -∗ Q ⟨c, w2, w13, w24⟩))
      ⊢ wp frame (wpE (defs₀ (F := F)) 𝒱₀ c none) Set.univ
          (k0_part1 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8) Q := by
  rw [k0_part1_eq_skeleton]; unfold k0_part1_skel
  simp only [semSignalWord, semWaitWord, Prog.lift, Prog.bind_op, Prog.bind_ret, Prog.pure_eq_ret, wp_deviceId]
  simp only [dev1_eq c, dev2_eq c]
  unfold ow
  iintro ⟨#HR, Ht1, Ht2, Hat, Hcr, ⟨%W, HO⟩, A0, A1, A2, M1, B0, B1, B2, M3, M2, Hk⟩
  ihave #Hcp := (Rec_at X Wt K (prv c, none)) $$ HR
  icases Hcp with ⟨#HIp, #Hrp⟩
  ihave #Hcn := (Rec_at X Wt K (nxt c, none)) $$ HR
  icases Hcn with ⟨#HIn, #Hrn⟩
  ihave #Hcc := (Rec_at X Wt K (c, none)) $$ HR
  icases Hcc with ⟨#HIc, -⟩
  unfold owe0
  iapply (Rounds.wp_signal 𝒱₀ ER (Rd X Wt) (c : Thread nD τ) none (dst := (prv c : Thread nD τ)) (κ := K (prv c, none))
      (d := false) (by rw [duties_bar]; exact Finset.mem_univ _) ((amount_bar X Wt (prv c) false).trans (by decide)) () (owe1 c) rfl)
    $$ [HO Ht1 A0 A1 A2 M1]
  · isplitr; · iexact HIp
    isplitl [HO]; · iexact HO
    isplitl [Ht1]; · iexact Ht1
    isplitl [A0 A1 A2 M1]
    · rw [payload_bar_false]; unfold barPayN; rw [nxt_prv]
      isplitl [A0]; · iexact A0
      isplitl [A1]; · iexact A1
      isplitl [A2]; · iexact A2
      iexact M1
    iexact Hrp
  iintro HO
  unfold owe1
  iapply (Rounds.wp_signal 𝒱₀ ER (Rd X Wt) (c : Thread nD τ) none (dst := (nxt c : Thread nD τ)) (κ := K (nxt c, none))
      (d := true) (by rw [duties_bar]; exact Finset.mem_univ _) ((amount_bar X Wt (nxt c) true).trans (by decide)) () (debt c allCopies) rfl)
    $$ [HO Ht2 B0 B1 B2 M3 M2]
  · isplitr; · iexact HIn
    isplitl [HO]; · iexact HO
    isplitl [Ht2]; · iexact Ht2
    isplitl [B0 B1 B2 M3 M2]
    · rw [payload_bar_true]; unfold barPayP; rw [prv_nxt]
      isplitl [B0]; · iexact B0
      isplitl [B1]; · iexact B1
      isplitl [B2]; · iexact B2
      isplitl [M3]; · iexact M3
      iexact M2
    iexact Hrn
  iintro HO
  iapply (Rounds.wp_wait_rest_token 𝒱₀ ER (Rd X Wt) (c : Thread nD τ) none (κ := K (c, none))
      (wpE_semWait_eq 𝒱₀ (c : Thread nD τ) none Set.univ) (Set.mem_univ _) () (O := debt c allCopies) (W := W) (R := 0) (m := 0) (T := ∅)
      (by rw [expect_bar]; decide)) $$ [Hcr HO Hat]
  · isplitr; · iexact HIc
    isplitl [Hcr]; · iexact Hcr
    isplitl [HO]; · iexact HO
    isplitr
    · iapply (mayWait_debt c (.reg barS) allCopies (fun p hp => by rw [lv_bar]; revert p; decide))
      iapply (Rec_levels X Wt K); iexact HR
    iexact Hat
  iintro ⟨HO, Hat, -, Hpay⟩
  ihave Hp := (Entails.of_eq (rest_bar X Wt c)) $$ Hpay
  icases Hp with ⟨HN, HP⟩
  imod (Rounds.cell_close ER (Rd X Wt) (Set.mem_univ (K (c, none))) (fun h => h) (R := 0 + 1) (duties_later X Wt (barCell c))) $$ [Hat] with Hz
  · isplitr; · iexact HIc
    iexact Hat
  rw [wp_ret]; imodintro
  iapply Hk
  isplitl [HN]; · iexact HN
  isplitl [HP]; · iexact HP
  isplitl [Hz]; · iexact Hz
  iexists _; iexact HO

/-- The halves of the device's own rows set out; its own rows of the product. -/
theorem part2_run (w2 : BitVec 32) (w13 : BitVec 32) (w24 : BitVec 32) (Q : F .f32 → sProp (MT nD τ sig Unit (Elt F) ℕ UU ℕ)) :
    iprop(Rec X Wt K ∗ ready 0 1 0 c ∗ ready 2 3 0 c ∗ owns (c : Thread nD τ) xM fullShare (X c) ∗ owns (c : Thread nD τ) wM fullShare (Wt c) ∗ free (nxt c) (cwSlot 0) ∗ free (prv c) (ccwSlot 0) ∗ free (ahead 2 (nxt c)) (amSlot 2) ∗ held (accV X Wt c) c ((bands c).take 0) ∗ ow c (debt c [(1, 0), (3, 0), (1, 1), (3, 1), (1, 2), (3, 2), (5, 0), (5, 1), (5, 2)])
        ∗ (iprop(pend 0 0 c ∗ pend 2 0 c ∗ owns (c : Thread nD τ) xM leftShare (X c) ∗ owns (c : Thread nD τ) wM fullShare (Wt c) ∗ held (accV X Wt c) c ((bands c).take 2) ∗ ow c (debt c [(1, 1), (3, 1), (1, 2), (3, 2), (5, 0), (5, 1), (5, 2)])) -∗ Q (k0_pay3 (X c) (Wt c))))
      ⊢ wp frame (wpE (defs₀ (F := F)) 𝒱₀ c none) Set.univ
          (k0_part2 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w2 w13 w24) Q := by
  rw [k0_part2_eq_skeleton]; unfold k0_part2_skel
  simp only [semSignalWord, semWaitWord, Prog.lift, Prog.bind_op, Prog.bind_ret, Prog.pure_eq_ret, wp_deviceId]
  iintro ⟨#HR, R1, R2, Hx, Hw, D1, D2, M2, Hout, HO, Hk⟩
  ihave Hxs := (owns_split c xM fullShare (X c)) $$ Hx
  icases Hxs with ⟨Hx, Hxr⟩
  ihave Hxh := (x_halves c fullShare.right (X c)) $$ Hxr
  icases Hxh with ⟨Hx0, Hx1⟩
  iapply (wp_send_x X Wt K c 0 1 0 [(3, 0), (1, 1), (3, 1), (1, 2), (3, 2), (5, 0), (5, 1), (5, 2)] _ (dev3_eq c) rfl (rightShare) (half (X c) 0) (free (ahead 2 (nxt c)) (amSlot 2)) rfl
      (Idealize.SL.BI.Entails.refl _) (by show _ ⊢ iprop(owns (nxt c : Thread nD τ) (cwSlot 0) fullShare (cwV X 0 (nxt c)) ∗ _); rw [cwV_first]; exact Idealize.SL.BI.Entails.refl _)) $$ [R1 Hx0 D1 M2 HO]
  · isplitr; · iexact HR
    isplitl [R1]; · iexact R1
    isplitl [Hx0]; · iexact Hx0
    isplitl [D1]; · iexact D1
    isplitl [M2]; · iexact M2
    iexact HO
  iintro ⟨P1, HO⟩
  iapply (wp_send_x X Wt K c 2 3 0 [(1, 1), (3, 1), (1, 2), (3, 2), (5, 0), (5, 1), (5, 2)] _ (dev4_eq c) rfl (rightShare) (half (X c) 1) (iprop(emp)) rfl
      (Idealize.SL.BI.Entails.refl _) (give_x3 X Wt 0 _ (prv c) (ccwV_first X c))) $$ [R2 Hx1 D2 HO]
  · isplitr; · iexact HR
    isplitl [R2]; · iexact R2
    isplitl [Hx1]; · iexact Hx1
    isplitl [D2]; · iexact D2
    isplitr; · iempintro
    iexact HO
  iintro ⟨P2, HO⟩
  iapply (wp_load_whole c xM leftShare (X c)) $$ Hx
  iintro Hx
  iapply (wp_load_whole c wM fullShare (Wt c)) $$ Hw
  iintro Hw
  iapply (wp_load_held (accV X Wt c) c _) $$ Hout
  iintro %_ Hout
  iapply (wp_store_held (accV X Wt c) c ((bands c).take 0) ((bands c).take 2) (2 * c.val) 2 (off1_eq c) rfl rfl (fun x i h0 h1 => own_rows X Wt c x i h0 h1)
      (bands_own c)) $$ Hout
  iintro Hout
  rw [wp_ret]; imodintro
  iapply Hk
  isplitl [P1]; · iexact P1
  isplitl [P2]; · iexact P2
  isplitl [Hx]; · iexact Hx
  isplitl [Hw]; · iexact Hw
  isplitl [Hout]; · iexact Hout
  iexact HO

/-- The first hop's waits. -/
theorem part3_run (w1 : BitVec 32) (w2 : BitVec 32) (Q : PUnit → sProp (MT nD τ sig Unit (Elt F) ℕ UU ℕ)) :
    iprop(Rec X Wt K ∗ pend 1 0 c ∗ pend 3 0 c ∗ pend 0 0 c ∗ pend 2 0 c ∗ ow c (debt c [(1, 1), (3, 1), (1, 2), (3, 2), (5, 0), (5, 1), (5, 2)])
        ∗ (iprop(owns (c : Thread nD τ) (cwSlot 0) fullShare (cwV X 0 c) ∗ free (ahead 2 c) (amSlot 2) ∗ done 1 0 c ∗ owns (c : Thread nD τ) (ccwSlot 0) fullShare (ccwV X 0 c) ∗ done 3 0 c ∗ owns (c : Thread nD τ) (xHalf 0) rightShare (half (X c) 0) ∗ done 0 0 c ∗ owns (c : Thread nD τ) (xHalf 1) rightShare (half (X c) 1) ∗ done 2 0 c ∗ ow c (debt c [(1, 1), (3, 1), (1, 2), (3, 2), (5, 0), (5, 1), (5, 2)])) -∗ Q ⟨⟩))
      ⊢ wp frame (wpE (defs₀ (F := F)) 𝒱₀ c none) Set.univ
          (k0_part3 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 w1 w2) Q := by
  rw [k0_part3_eq_skeleton]; unfold k0_part3_skel
  simp only [semSignalWord, semWaitWord, Prog.lift, Prog.bind_op, Prog.bind_ret, Prog.pure_eq_ret, wp_deviceId]
  iintro ⟨#HR, H1, H2, H3, H4, HO, Hk⟩
  iapply (wp_wait_x X Wt K c 1 0 [(1, 1), (3, 1), (1, 2), (3, 2), (5, 0), (5, 1), (5, 2)] (by decide) rfl) $$ [H1 HO]
  · isplitr; · iexact HR
    isplitl [H1]; · iexact H1
    iexact HO
  iintro ⟨P1, D1, HO⟩
  ihave P1 := (show xpay X Wt 1 0 c ⊢ iprop(owns (c : Thread nD τ) (cwSlot 0) fullShare (cwV X 0 c) ∗ free (ahead 2 c) (amSlot 2)) from Idealize.SL.BI.Entails.refl _) $$ P1
  icases P1 with ⟨P1, M2⟩
  iapply (wp_wait_x X Wt K c 3 0 [(1, 1), (3, 1), (1, 2), (3, 2), (5, 0), (5, 1), (5, 2)] (by decide) rfl) $$ [H2 HO]
  · isplitr; · iexact HR
    isplitl [H2]; · iexact H2
    iexact HO
  iintro ⟨P2, D2, HO⟩
  ihave P2 := (show xpay X Wt 3 0 c ⊢ owns (c : Thread nD τ) (ccwSlot 0) fullShare (ccwV X 0 c) from Idealize.SL.BI.Entails.refl _) $$ P2
  iapply (wp_wait_x X Wt K c 0 0 [(1, 1), (3, 1), (1, 2), (3, 2), (5, 0), (5, 1), (5, 2)] (by decide) rfl) $$ [H3 HO]
  · isplitr; · iexact HR
    isplitl [H3]; · iexact H3
    iexact HO
  iintro ⟨P3, D3, HO⟩
  ihave P3 := (show xpay X Wt 0 0 c ⊢ owns (c : Thread nD τ) (xHalf 0) rightShare (half (X c) 0) from Idealize.SL.BI.Entails.refl _) $$ P3
  iapply (wp_wait_x X Wt K c 2 0 [(1, 1), (3, 1), (1, 2), (3, 2), (5, 0), (5, 1), (5, 2)] (by decide) rfl) $$ [H4 HO]
  · isplitr; · iexact HR
    isplitl [H4]; · iexact H4
    iexact HO
  iintro ⟨P4, D4, HO⟩
  ihave P4 := (show xpay X Wt 2 0 c ⊢ owns (c : Thread nD τ) (xHalf 1) rightShare (half (X c) 1) from Idealize.SL.BI.Entails.refl _) $$ P4
  rw [wp_ret]; imodintro
  iapply Hk
  isplitl [P1]; · iexact P1
  isplitl [M2]; · iexact M2
  isplitl [D1]; · iexact D1
  isplitl [P2]; · iexact P2
  isplitl [D2]; · iexact D2
  isplitl [P3]; · iexact P3
  isplitl [D3]; · iexact D3
  isplitl [P4]; · iexact P4
  isplitl [D4]; · iexact D4
  iexact HO

/-- The first halves to arrive set out on their second hop. -/
theorem part4_run (w2 : BitVec 32) (w13 : BitVec 32) (w24 : BitVec 32) (Q : (Σ' (v108 : BitVec 32) (v109 : BitVec 32), BitVec 1) → sProp (MT nD τ sig Unit (Elt F) ℕ UU ℕ)) :
    iprop(Rec X Wt K ∗ ready 0 1 1 c ∗ ready 2 3 1 c ∗ owns (c : Thread nD τ) (cwSlot 0) fullShare (cwV X 0 c) ∗ owns (c : Thread nD τ) (ccwSlot 0) fullShare (ccwV X 0 c) ∗ free (nxt c) (cwSlot 1) ∗ free (prv c) (ccwSlot 1) ∗ ow c (debt c [(1, 1), (3, 1), (1, 2), (3, 2), (5, 0), (5, 1), (5, 2)])
        ∗ (∀ u1 u2 u3, iprop(pend 0 1 c ∗ pend 2 1 c ∗ owns (c : Thread nD τ) (cwSlot 0) leftShare (cwV X 0 c) ∗ owns (c : Thread nD τ) (ccwSlot 0) leftShare (ccwV X 0 c) ∗ ow c (debt c [(1, 2), (3, 2), (5, 0), (5, 1), (5, 2)])) -∗ Q ⟨u1, u2, u3⟩))
      ⊢ wp frame (wpE (defs₀ (F := F)) 𝒱₀ c none) Set.univ
          (k0_part4 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w2 w13 w24) Q := by
  rw [k0_part4_eq_skeleton]; unfold k0_part4_skel
  simp only [semSignalWord, semWaitWord, Prog.lift, Prog.bind_op, Prog.bind_ret, Prog.pure_eq_ret, wp_deviceId]
  iintro ⟨#HR, R1, R2, A, B, D1, D2, HO, Hk⟩
  ihave A := (owns_split c (cwSlot 0) fullShare (cwV X 0 c)) $$ A
  icases A with ⟨A, Ar⟩
  ihave B := (owns_split c (ccwSlot 0) fullShare (ccwV X 0 c)) $$ B
  icases B with ⟨B, Br⟩
  iapply (wp_send_x X Wt K c 0 1 1 [(3, 1), (1, 2), (3, 2), (5, 0), (5, 1), (5, 2)] _ (dev5_eq c) rfl (rightShare) (cwV X 0 c) (iprop(emp)) rfl
      (Idealize.SL.BI.Entails.refl _) (give_x1 X Wt 1 _ (nxt c) (by decide) (cwV_second X c))) $$ [R1 Ar D1 HO]
  · isplitr; · iexact HR
    isplitl [R1]; · iexact R1
    isplitl [Ar]; · iexact Ar
    isplitl [D1]; · iexact D1
    isplitr; · iempintro
    iexact HO
  iintro ⟨P1, HO⟩
  iapply (wp_send_x X Wt K c 2 3 1 [(1, 2), (3, 2), (5, 0), (5, 1), (5, 2)] _ (dev6_eq c) rfl (rightShare) (ccwV X 0 c) (iprop(emp)) rfl
      (Idealize.SL.BI.Entails.refl _) (give_x3 X Wt 1 _ (prv c) (ccwV_second X c))) $$ [R2 Br D2 HO]
  · isplitr; · iexact HR
    isplitl [R2]; · iexact R2
    isplitl [Br]; · iexact Br
    isplitl [D2]; · iexact D2
    isplitr; · iempintro
    iexact HO
  iintro ⟨P2, HO⟩
  rw [wp_ret]; imodintro
  iapply Hk
  isplitl [P1]; · iexact P1
  isplitl [P2]; · iexact P2
  isplitl [A]; · iexact A
  isplitl [B]; · iexact B
  iexact HO

/-- The rows of the product that the first hop brought. -/
theorem part5_run (w2 : BitVec 32) (w108 : BitVec 32) (w109 : BitVec 32) (b114 : BitVec 1) (Q : (Σ' (v141 : FVec F S512x512 .f32), FVec F S1x512x512 .f32) → sProp (MT nD τ sig Unit (Elt F) ℕ UU ℕ)) :
    iprop(Rec X Wt K ∗ owns (c : Thread nD τ) (cwSlot 0) leftShare (cwV X 0 c) ∗ owns (c : Thread nD τ) (ccwSlot 0) leftShare (ccwV X 0 c) ∗ owns (c : Thread nD τ) wM fullShare (Wt c) ∗ held (accV X Wt c) c ((bands c).take 2)
        ∗ (iprop(owns (c : Thread nD τ) (cwSlot 0) leftShare (cwV X 0 c) ∗ owns (c : Thread nD τ) (ccwSlot 0) leftShare (ccwV X 0 c) ∗ owns (c : Thread nD τ) wM fullShare (Wt c) ∗ held (accV X Wt c) c ((bands c).take 4)) -∗ Q ⟨k0_pay5 (up (ccwV X 0 c)) (Wt c), k0_pay6 (up (cwV X 0 c)) (Wt c)⟩))
      ⊢ wp frame (wpE (defs₀ (F := F)) 𝒱₀ c none) Set.univ
          (k0_part5 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w2 w108 w109 b114) Q := by
  rw [k0_part5_eq_skeleton]; unfold k0_part5_skel
  simp only [semSignalWord, semWaitWord, Prog.lift, Prog.bind_op, Prog.bind_ret, Prog.pure_eq_ret, wp_deviceId]
  iintro ⟨#HR, A, B, Hw, Hout, Hk⟩
  iapply (wp_load_half c cwM 0) $$ A
  iintro A
  iapply (wp_load_whole c wM fullShare (Wt c)) $$ Hw
  iintro Hw
  iapply (wp_load_held (accV X Wt c) c _) $$ Hout
  iintro %_ Hout
  iapply (wp_store_held (accV X Wt c) c ((bands c).take 2) ((bands c).take 3) (2 * (cwSrc 0 c).val) 1 (off2_eq 0 c) rfl rfl (fun x i h0 h1 => upper_rows X Wt c 0 x i h0 h1)
      (bands_cw 0 c)) $$ Hout
  iintro Hout
  iapply (wp_load_half c ccwM 0) $$ B
  iintro B
  iapply (wp_load_whole c wM fullShare (Wt c)) $$ Hw
  iintro Hw
  iapply (wp_load_held (accV X Wt c) c _) $$ Hout
  iintro %_ Hout
  iapply (wp_store_held (accV X Wt c) c ((bands c).take 3) ((bands c).take 4) (2 * (ccwSrc 0 c).val + 1) 1 (off3_eq 0 c) rfl rfl (fun x i h0 h1 => lower_rows X Wt c 0 x i h0 h1)
      (bands_ccw 0 c)) $$ Hout
  iintro Hout
  rw [wp_ret]; imodintro
  iapply Hk
  isplitl [A]; · iexact A
  isplitl [B]; · iexact B
  isplitl [Hw]; · iexact Hw
  iexact Hout

/-- The second hop's receives. -/
theorem part6_run (w13 : BitVec 32) (w24 : BitVec 32) (v60 : F .f32) (v141 : FVec F S512x512 .f32) (v147 : FVec F S1x512x512 .f32) (Q : F .f32 → sProp (MT nD τ sig Unit (Elt F) ℕ UU ℕ)) :
    iprop(Rec X Wt K ∗ pend 1 1 c ∗ pend 3 1 c ∗ ow c (debt c [(1, 2), (3, 2), (5, 0), (5, 1), (5, 2)])
        ∗ (iprop(owns (c : Thread nD τ) (cwSlot 1) fullShare (cwV X 1 c) ∗ done 1 1 c ∗ owns (c : Thread nD τ) (ccwSlot 1) fullShare (ccwV X 1 c) ∗ done 3 1 c ∗ ow c (debt c [(1, 2), (3, 2), (5, 0), (5, 1), (5, 2)])) -∗ Q (k0_pay7 v60 v141 v147)))
      ⊢ wp frame (wpE (defs₀ (F := F)) 𝒱₀ c none) Set.univ
          (k0_part6 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 w13 w24 v60 v141 v147) Q := by
  rw [k0_part6_eq_skeleton]; unfold k0_part6_skel
  simp only [semSignalWord, semWaitWord, Prog.lift, Prog.bind_op, Prog.bind_ret, Prog.pure_eq_ret, wp_deviceId]
  iintro ⟨#HR, H1, H2, HO, Hk⟩
  iapply (wp_wait_x X Wt K c 1 1 [(1, 2), (3, 2), (5, 0), (5, 1), (5, 2)] (by decide) rfl) $$ [H1 HO]
  · isplitr; · iexact HR
    isplitl [H1]; · iexact H1
    iexact HO
  iintro ⟨P1, D1, HO⟩
  ihave P1 := (show xpay X Wt 1 1 c ⊢ owns (c : Thread nD τ) (cwSlot 1) fullShare (cwV X 1 c) from Idealize.SL.BI.Entails.refl _) $$ P1
  iapply (wp_wait_x X Wt K c 3 1 [(1, 2), (3, 2), (5, 0), (5, 1), (5, 2)] (by decide) rfl) $$ [H2 HO]
  · isplitr; · iexact HR
    isplitl [H2]; · iexact H2
    iexact HO
  iintro ⟨P2, D2, HO⟩
  ihave P2 := (show xpay X Wt 3 1 c ⊢ owns (c : Thread nD τ) (ccwSlot 1) fullShare (ccwV X 1 c) from Idealize.SL.BI.Entails.refl _) $$ P2
  rw [wp_ret]; imodintro
  iapply Hk
  isplitl [P1]; · iexact P1
  isplitl [D1]; · iexact D1
  isplitl [P2]; · iexact P2
  isplitl [D2]; · iexact D2
  iexact HO

/-- The second hop's sends done; the upper half's third hop set out. -/
theorem part7_run (w13 : BitVec 32) (w24 : BitVec 32) (Q : PUnit → sProp (MT nD τ sig Unit (Elt F) ℕ UU ℕ)) :
    iprop(Rec X Wt K ∗ pend 0 1 c ∗ pend 2 1 c ∗ ready 0 1 2 c ∗ owns (c : Thread nD τ) (cwSlot 1) fullShare (cwV X 1 c) ∗ free (nxt c) (cwSlot 2) ∗ ow c (debt c [(1, 2), (3, 2), (5, 0), (5, 1), (5, 2)])
        ∗ (iprop(owns (c : Thread nD τ) (cwSlot 0) rightShare (cwV X 0 c) ∗ done 0 1 c ∗ owns (c : Thread nD τ) (ccwSlot 0) rightShare (ccwV X 0 c) ∗ done 2 1 c ∗ pend 0 2 c ∗ owns (c : Thread nD τ) (cwSlot 1) leftShare (cwV X 1 c) ∗ ow c (debt c [(3, 2), (5, 0), (5, 1), (5, 2)])) -∗ Q ⟨⟩))
      ⊢ wp frame (wpE (defs₀ (F := F)) 𝒱₀ c none) Set.univ
          (k0_part7 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w13 w24) Q := by
  rw [k0_part7_eq_skeleton]; unfold k0_part7_skel
  simp only [semSignalWord, semWaitWord, Prog.lift, Prog.bind_op, Prog.bind_ret, Prog.pure_eq_ret, wp_deviceId]
  iintro ⟨#HR, H1, H2, R1, A, D1, HO, Hk⟩
  iapply (wp_wait_x X Wt K c 0 1 [(1, 2), (3, 2), (5, 0), (5, 1), (5, 2)] (by decide) rfl) $$ [H1 HO]
  · isplitr; · iexact HR
    isplitl [H1]; · iexact H1
    iexact HO
  iintro ⟨P1, E1, HO⟩
  ihave P1 := (show xpay X Wt 0 1 c ⊢ owns (c : Thread nD τ) (cwSlot 0) rightShare (cwV X 0 c) from Idealize.SL.BI.Entails.refl _) $$ P1
  iapply (wp_wait_x X Wt K c 2 1 [(1, 2), (3, 2), (5, 0), (5, 1), (5, 2)] (by decide) rfl) $$ [H2 HO]
  · isplitr; · iexact HR
    isplitl [H2]; · iexact H2
    iexact HO
  iintro ⟨P2, E2, HO⟩
  ihave P2 := (show xpay X Wt 2 1 c ⊢ owns (c : Thread nD τ) (ccwSlot 0) rightShare (ccwV X 0 c) from Idealize.SL.BI.Entails.refl _) $$ P2
  ihave A := (owns_split c (cwSlot 1) fullShare (cwV X 1 c)) $$ A
  icases A with ⟨A, Ar⟩
  iapply (wp_send_x X Wt K c 0 1 2 [(3, 2), (5, 0), (5, 1), (5, 2)] _ (dev7_eq c) rfl (rightShare) (cwV X 1 c) (iprop(emp)) rfl
      (Idealize.SL.BI.Entails.refl _) (give_x1 X Wt 2 _ (nxt c) (by decide) (cwV_third X c))) $$ [R1 Ar D1 HO]
  · isplitr; · iexact HR
    isplitl [R1]; · iexact R1
    isplitl [Ar]; · iexact Ar
    isplitl [D1]; · iexact D1
    isplitr; · iempintro
    iexact HO
  iintro ⟨N1, HO⟩
  rw [wp_ret]; imodintro
  iapply Hk
  isplitl [P1]; · iexact P1
  isplitl [E1]; · iexact E1
  isplitl [P2]; · iexact P2
  isplitl [E2]; · iexact E2
  isplitl [N1]; · iexact N1
  isplitl [A]; · iexact A
  iexact HO

/-- The lower half's third hop set out; the second hop's upper rows of the product. -/
theorem part8_run (w2 : BitVec 32) (Q : (Σ' (v229 : BitVec 32), FVec F S512x512 .f32) → sProp (MT nD τ sig Unit (Elt F) ℕ UU ℕ)) :
    iprop(Rec X Wt K ∗ ready 2 3 2 c ∗ owns (c : Thread nD τ) (ccwSlot 1) fullShare (ccwV X 1 c) ∗ free (prv c) (ccwSlot 2) ∗ owns (c : Thread nD τ) (cwSlot 1) leftShare (cwV X 1 c) ∗ owns (c : Thread nD τ) wM fullShare (Wt c) ∗ held (accV X Wt c) c ((bands c).take 4) ∗ ow c (debt c [(3, 2), (5, 0), (5, 1), (5, 2)])
        ∗ (∀ u1, iprop(pend 2 2 c ∗ owns (c : Thread nD τ) (ccwSlot 1) leftShare (ccwV X 1 c) ∗ owns (c : Thread nD τ) (cwSlot 1) leftShare (cwV X 1 c) ∗ owns (c : Thread nD τ) wM fullShare (Wt c) ∗ held (accV X Wt c) c ((bands c).take 4) ∗ ow c (debt c [(5, 0), (5, 1), (5, 2)])) -∗ Q ⟨u1, k0_pay8 (up (cwV X 1 c)) (Wt c)⟩))
      ⊢ wp frame (wpE (defs₀ (F := F)) 𝒱₀ c none) Set.univ
          (k0_part8 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w2) Q := by
  rw [k0_part8_eq_skeleton]; unfold k0_part8_skel
  simp only [semSignalWord, semWaitWord, Prog.lift, Prog.bind_op, Prog.bind_ret, Prog.pure_eq_ret, wp_deviceId]
  iintro ⟨#HR, R2, B, D2, A, Hw, Hout, HO, Hk⟩
  ihave B := (owns_split c (ccwSlot 1) fullShare (ccwV X 1 c)) $$ B
  icases B with ⟨B, Br⟩
  iapply (wp_send_x X Wt K c 2 3 2 [(5, 0), (5, 1), (5, 2)] _ (dev8_eq c) rfl (rightShare) (ccwV X 1 c) (iprop(emp)) rfl
      (Idealize.SL.BI.Entails.refl _) (give_x3 X Wt 2 _ (prv c) (ccwV_third X c))) $$ [R2 Br D2 HO]
  · isplitr; · iexact HR
    isplitl [R2]; · iexact R2
    isplitl [Br]; · iexact Br
    isplitl [D2]; · iexact D2
    isplitr; · iempintro
    iexact HO
  iintro ⟨N2, HO⟩
  iapply (wp_load_half c cwM 1) $$ A
  iintro A
  iapply (wp_load_whole c wM fullShare (Wt c)) $$ Hw
  iintro Hw
  iapply (wp_load_held (accV X Wt c) c _) $$ Hout
  iintro %_ Hout
  rw [wp_ret]; imodintro
  iapply Hk
  isplitl [N2]; · iexact N2
  isplitl [B]; · iexact B
  isplitl [A]; · iexact A
  isplitl [Hw]; · iexact Hw
  isplitl [Hout]; · iexact Hout
  iexact HO

/-- The second hop's rows of the product stored; the upper half's last receive. -/
theorem part9_run (w13 : BitVec 32) (w24 : BitVec 32) (w229 : BitVec 32) (v157 : F .f32) (Q : (Σ' (v258 : F .f32) (v267 : BitVec 32), BitVec 32) → sProp (MT nD τ sig Unit (Elt F) ℕ UU ℕ)) :
    iprop(Rec X Wt K ∗ owns (c : Thread nD τ) (ccwSlot 1) leftShare (ccwV X 1 c) ∗ owns (c : Thread nD τ) wM fullShare (Wt c) ∗ held (accV X Wt c) c ((bands c).take 4) ∗ pend 1 2 c ∗ ow c (debt c [(5, 0), (5, 1), (5, 2)])
        ∗ (∀ u1 u2, iprop(owns (c : Thread nD τ) (ccwSlot 1) leftShare (ccwV X 1 c) ∗ owns (c : Thread nD τ) wM fullShare (Wt c) ∗ held (accV X Wt c) c ((bands c).take 6) ∗ owns (c : Thread nD τ) (cwSlot 2) fullShare (cwV X 2 c) ∗ done 1 2 c ∗ ow c (debt c [(5, 0), (5, 1), (5, 2)])) -∗ Q ⟨k0_pay10 v157 (k0_pay8 (up (cwV X 1 c)) (Wt c)) (up (ccwV X 1 c)) (Wt c), u1, u2⟩))
      ⊢ wp frame (wpE (defs₀ (F := F)) 𝒱₀ c none) Set.univ
          (k0_part9 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w13 w24 v157 w229 (k0_pay8 (up (cwV X 1 c)) (Wt c))) Q := by
  rw [k0_part9_eq_skeleton]; unfold k0_part9_skel
  simp only [semSignalWord, semWaitWord, Prog.lift, Prog.bind_op, Prog.bind_ret, Prog.pure_eq_ret, wp_deviceId]
  iintro ⟨#HR, B, Hw, Hout, H1, HO, Hk⟩
  iapply (wp_store_held (accV X Wt c) c ((bands c).take 4) ((bands c).take 5) (2 * (cwSrc 1 c).val) 1 (off2_eq 1 c) rfl rfl (fun x i h0 h1 => upper_rows X Wt c 1 x i h0 h1)
      (bands_cw 1 c)) $$ Hout
  iintro Hout
  iapply (wp_load_half c ccwM 1) $$ B
  iintro B
  iapply (wp_load_whole c wM fullShare (Wt c)) $$ Hw
  iintro Hw
  iapply (wp_load_held (accV X Wt c) c _) $$ Hout
  iintro %_ Hout
  iapply (wp_store_held (accV X Wt c) c ((bands c).take 5) ((bands c).take 6) (2 * (ccwSrc 1 c).val + 1) 1 (off3_eq 1 c) rfl rfl (fun x i h0 h1 => lower_rows X Wt c 1 x i h0 h1)
      (bands_ccw 1 c)) $$ Hout
  iintro Hout
  iapply (wp_wait_x X Wt K c 1 2 [(5, 0), (5, 1), (5, 2)] (by decide) rfl) $$ [H1 HO]
  · isplitr; · iexact HR
    isplitl [H1]; · iexact H1
    iexact HO
  iintro ⟨P1, D1, HO⟩
  ihave P1 := (show xpay X Wt 1 2 c ⊢ owns (c : Thread nD τ) (cwSlot 2) fullShare (cwV X 2 c) from Idealize.SL.BI.Entails.refl _) $$ P1
  rw [wp_ret]; imodintro
  iapply Hk
  isplitl [B]; · iexact B
  isplitl [Hw]; · iexact Hw
  isplitl [Hout]; · iexact Hout
  isplitl [P1]; · iexact P1
  isplitl [D1]; · iexact D1
  iexact HO

/-- The last hop's other waits. -/
theorem part10_run (w2 : BitVec 32) (w267 : BitVec 32) (w0 : BitVec 32) (Q : (Σ' (v290 : BitVec 32) (v291 : BitVec 32) (v292 : BitVec 1) (v293 : BitVec 1), BitVec 1) → sProp (MT nD τ sig Unit (Elt F) ℕ UU ℕ)) :
    iprop(Rec X Wt K ∗ pend 3 2 c ∗ pend 0 2 c ∗ pend 2 2 c ∗ ow c (debt c [(5, 0), (5, 1), (5, 2)])
        ∗ (∀ u1 u2 u3 u4 u5, iprop(owns (c : Thread nD τ) (ccwSlot 2) fullShare (ccwV X 2 c) ∗ done 3 2 c ∗ owns (c : Thread nD τ) (cwSlot 1) rightShare (cwV X 1 c) ∗ done 0 2 c ∗ owns (c : Thread nD τ) (ccwSlot 1) rightShare (ccwV X 1 c) ∗ done 2 2 c ∗ ow c (debt c [(5, 0), (5, 1), (5, 2)])) -∗ Q ⟨u1, u2, u3, u4, u5⟩))
      ⊢ wp frame (wpE (defs₀ (F := F)) 𝒱₀ c none) Set.univ
          (k0_part10 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 w2 w267 w0) Q := by
  rw [k0_part10_eq_skeleton]; unfold k0_part10_skel
  simp only [semSignalWord, semWaitWord, Prog.lift, Prog.bind_op, Prog.bind_ret, Prog.pure_eq_ret, wp_deviceId]
  iintro ⟨#HR, H1, H2, H3, HO, Hk⟩
  iapply (wp_wait_x X Wt K c 3 2 [(5, 0), (5, 1), (5, 2)] (by decide) rfl) $$ [H1 HO]
  · isplitr; · iexact HR
    isplitl [H1]; · iexact H1
    iexact HO
  iintro ⟨P1, D1, HO⟩
  ihave P1 := (show xpay X Wt 3 2 c ⊢ owns (c : Thread nD τ) (ccwSlot 2) fullShare (ccwV X 2 c) from Idealize.SL.BI.Entails.refl _) $$ P1
  iapply (wp_wait_x X Wt K c 0 2 [(5, 0), (5, 1), (5, 2)] (by decide) rfl) $$ [H2 HO]
  · isplitr; · iexact HR
    isplitl [H2]; · iexact H2
    iexact HO
  iintro ⟨P2, D2, HO⟩
  ihave P2 := (show xpay X Wt 0 2 c ⊢ owns (c : Thread nD τ) (cwSlot 1) rightShare (cwV X 1 c) from Idealize.SL.BI.Entails.refl _) $$ P2
  iapply (wp_wait_x X Wt K c 2 2 [(5, 0), (5, 1), (5, 2)] (by decide) rfl) $$ [H3 HO]
  · isplitr; · iexact HR
    isplitl [H3]; · iexact H3
    iexact HO
  iintro ⟨P3, D3, HO⟩
  ihave P3 := (show xpay X Wt 2 2 c ⊢ owns (c : Thread nD τ) (ccwSlot 1) rightShare (ccwV X 1 c) from Idealize.SL.BI.Entails.refl _) $$ P3
  rw [wp_ret]; imodintro
  iapply Hk
  isplitl [P1]; · iexact P1
  isplitl [D1]; · iexact D1
  isplitl [P2]; · iexact P2
  isplitl [D2]; · iexact D2
  isplitl [P3]; · iexact P3
  isplitl [D3]; · iexact D3
  iexact HO

/-- The last hop's rows of the product. -/
theorem part11_run (w2 : BitVec 32) (w290 : BitVec 32) (w291 : BitVec 32) (b292 : BitVec 1) (b293 : BitVec 1) (b294 : BitVec 1) (Q : (Σ' (v315 : FVec F S512x512 .f32), FVec F S512x512 .f32) → sProp (MT nD τ sig Unit (Elt F) ℕ UU ℕ)) :
    iprop(Rec X Wt K ∗ owns (c : Thread nD τ) (cwSlot 2) fullShare (cwV X 2 c) ∗ owns (c : Thread nD τ) (ccwSlot 2) fullShare (ccwV X 2 c) ∗ owns (c : Thread nD τ) wM fullShare (Wt c) ∗ held (accV X Wt c) c ((bands c).take 6)
        ∗ (iprop(owns (c : Thread nD τ) (cwSlot 2) fullShare (cwV X 2 c) ∗ owns (c : Thread nD τ) (ccwSlot 2) fullShare (ccwV X 2 c) ∗ owns (c : Thread nD τ) wM fullShare (Wt c) ∗ held (accV X Wt c) c ((bands c).take 8)) -∗ Q ⟨k0_pay11 (up (cwV X 2 c)) (Wt c), k0_pay12 (up (ccwV X 2 c)) (Wt c)⟩))
      ⊢ wp frame (wpE (defs₀ (F := F)) 𝒱₀ c none) Set.univ
          (k0_part11 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w2 w290 w291 b292 b293 b294) Q := by
  rw [k0_part11_eq_skeleton]; unfold k0_part11_skel
  simp only [semSignalWord, semWaitWord, Prog.lift, Prog.bind_op, Prog.bind_ret, Prog.pure_eq_ret, wp_deviceId]
  iintro ⟨#HR, A, B, Hw, Hout, Hk⟩
  iapply (wp_load_half c cwM 2) $$ A
  iintro A
  iapply (wp_load_whole c wM fullShare (Wt c)) $$ Hw
  iintro Hw
  iapply (wp_load_held (accV X Wt c) c _) $$ Hout
  iintro %_ Hout
  iapply (wp_store_held (accV X Wt c) c ((bands c).take 6) ((bands c).take 7) (2 * (cwSrc 2 c).val) 1 (off2_eq 2 c) rfl rfl (fun x i h0 h1 => upper_rows X Wt c 2 x i h0 h1)
      (bands_cw 2 c)) $$ Hout
  iintro Hout
  iapply (wp_load_half c ccwM 2) $$ B
  iintro B
  iapply (wp_load_whole c wM fullShare (Wt c)) $$ Hw
  iintro Hw
  iapply (wp_load_held (accV X Wt c) c _) $$ Hout
  iintro %_ Hout
  iapply (wp_store_held (accV X Wt c) c ((bands c).take 7) ((bands c).take 8) (2 * (ccwSrc 2 c).val + 1) 1 (off3_eq 2 c) rfl rfl (fun x i h0 h1 => lower_rows X Wt c 2 x i h0 h1)
      (bands_ccw 2 c)) $$ Hout
  iintro Hout
  rw [wp_ret]; imodintro
  iapply Hk
  isplitl [A]; · iexact A
  isplitl [B]; · iexact B
  isplitl [Hw]; · iexact Hw
  iexact Hout

/-- The tile of the device's largest magnitude. -/
theorem part12_run (w2 : BitVec 32) (Q : BitVec 32 → sProp (MT nD τ sig Unit (Elt F) ℕ UU ℕ)) :
    iprop(Rec X Wt K ∗ free c (amSlot 0)
        ∗ (∀ u1, iprop(owns (c : Thread nD τ) (amSlot 0) fullShare (amV X Wt c)) -∗ Q u1))
      ⊢ wp frame (wpE (defs₀ (F := F)) 𝒱₀ c none) Set.univ
          (k0_part12 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 w2 (top2 X Wt c) (k0_pay11 (up (cwV X 2 c)) (Wt c)) (k0_pay12 (up (ccwV X 2 c)) (Wt c))) Q := by
  rw [k0_part12_eq_skeleton]; unfold k0_part12_skel
  simp only [semSignalWord, semWaitWord, Prog.lift, Prog.bind_op, Prog.bind_ret, Prog.pure_eq_ret, wp_deviceId]
  iintro ⟨#HR, M0, Hk⟩
  icases M0 with ⟨%Z, M0⟩
  iapply (wp_load_slot (c : Thread nD τ) 𝒱₀ none (M := amM) squeezes_S1x8x128_S8x128 0) $$ M0
  iintro M0
  iapply (wp_store_slot (c : Thread nD τ) 𝒱₀ none (M := amM) squeezes_S1x8x128_S8x128 0) $$ M0
  iintro M0
  rw [wp_ret]; imodintro
  iapply Hk
  iexact M0

/-- The tile sent to the first two of the other devices. -/
theorem part13_run (w2 : BitVec 32) (Q : (Σ' (v375 : BitVec 32), BitVec 32) → sProp (MT nD τ sig Unit (Elt F) ℕ UU ℕ)) :
    iprop(Rec X Wt K ∗ ready 4 5 0 c ∗ ready 4 5 1 c ∗ owns (c : Thread nD τ) (amSlot 0) fullShare (amV X Wt c) ∗ free (ahead 1 c) (amSlot 1) ∗ free (ahead 2 c) (amSlot 2) ∗ ow c (debt c [(5, 0), (5, 1), (5, 2)])
        ∗ (∀ u1 u2, iprop(pend 4 0 c ∗ pend 4 1 c ∗ owns (c : Thread nD τ) (amSlot 0) fullShare.right.right (amV X Wt c) ∗ ow c (debt c [(5, 2)])) -∗ Q ⟨u1, u2⟩))
      ⊢ wp frame (wpE (defs₀ (F := F)) 𝒱₀ c none) Set.univ
          (k0_part13 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w2) Q := by
  rw [k0_part13_eq_skeleton]; unfold k0_part13_skel
  simp only [semSignalWord, semWaitWord, Prog.lift, Prog.bind_op, Prog.bind_ret, Prog.pure_eq_ret, wp_deviceId]
  iintro ⟨#HR, R1, R2, M0, D1, D2, HO, Hk⟩
  ihave M0 := (owns_split c (amSlot 0) fullShare (amV X Wt c)) $$ M0
  icases M0 with ⟨Ma, Mr⟩
  ihave Mr := (owns_split c (amSlot 0) fullShare.right (amV X Wt c)) $$ Mr
  icases Mr with ⟨Mb, Mc⟩
  iapply (wp_send_x X Wt K c 4 5 0 [(5, 1), (5, 2)] _ (dev9_eq c) rfl (fullShare.left) (amV X Wt c) (iprop(emp)) rfl
      (Idealize.SL.BI.Entails.refl _) (give_x5 X Wt 0 c _ (amSrc_sent c 0))) $$ [R1 Ma D1 HO]
  · isplitr; · iexact HR
    isplitl [R1]; · iexact R1
    isplitl [Ma]; · iexact Ma
    isplitl [D1]; · iexact D1
    isplitr; · iempintro
    iexact HO
  iintro ⟨P1, HO⟩
  iapply (wp_send_x X Wt K c 4 5 1 [(5, 2)] _ (dev10_eq c) rfl (fullShare.right.left) (amV X Wt c) (iprop(emp)) rfl
      (Idealize.SL.BI.Entails.refl _) (give_x5 X Wt 1 c _ (amSrc_sent c 1))) $$ [R2 Mb D2 HO]
  · isplitr; · iexact HR
    isplitl [R2]; · iexact R2
    isplitl [Mb]; · iexact Mb
    isplitl [D2]; · iexact D2
    isplitr; · iempintro
    iexact HO
  iintro ⟨P2, HO⟩
  rw [wp_ret]; imodintro
  iapply Hk
  isplitl [P1]; · iexact P1
  isplitl [P2]; · iexact P2
  isplitl [Mc]; · iexact Mc
  iexact HO

/-- The tile sent to the last of the other devices; the first one's tile. -/
theorem part14_run (w354 : BitVec 32) (w396 : BitVec 32) (Q : PUnit → sProp (MT nD τ sig Unit (Elt F) ℕ UU ℕ)) :
    iprop(Rec X Wt K ∗ ready 4 5 2 c ∗ owns (c : Thread nD τ) (amSlot 0) fullShare.right.right (amV X Wt c) ∗ free (ahead 3 c) (amSlot 3) ∗ pend 4 0 c ∗ pend 5 0 c ∗ ow c (debt c [(5, 2)])
        ∗ (iprop(pend 4 2 c ∗ owns (c : Thread nD τ) (amSlot 0) fullShare.left (amV X Wt c) ∗ done 4 0 c ∗ owns (c : Thread nD τ) (amSlot 1) fullShare (amV X Wt (amSrc 1 c)) ∗ done 5 0 c ∗ ow c (debt c [])) -∗ Q ⟨⟩))
      ⊢ wp frame (wpE (defs₀ (F := F)) 𝒱₀ c none) Set.univ
          (k0_part14 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 c w354 w396) Q := by
  rw [k0_part14_eq_skeleton]; unfold k0_part14_skel
  simp only [semSignalWord, semWaitWord, Prog.lift, Prog.bind_op, Prog.bind_ret, Prog.pure_eq_ret, wp_deviceId]
  iintro ⟨#HR, R1, Mc, D1, H1, H2, HO, Hk⟩
  iapply (wp_send_x X Wt K c 4 5 2 [] _ (dev11_eq c) rfl (fullShare.right.right) (amV X Wt c) (iprop(emp)) rfl
      (Idealize.SL.BI.Entails.refl _) (give_x5 X Wt 2 c _ (amSrc_sent c 2))) $$ [R1 Mc D1 HO]
  · isplitr; · iexact HR
    isplitl [R1]; · iexact R1
    isplitl [Mc]; · iexact Mc
    isplitl [D1]; · iexact D1
    isplitr; · iempintro
    iexact HO
  iintro ⟨P1, HO⟩
  iapply (wp_wait_x X Wt K c 4 0 [] (by decide) rfl) $$ [H1 HO]
  · isplitr; · iexact HR
    isplitl [H1]; · iexact H1
    iexact HO
  iintro ⟨Q1, E1, HO⟩
  ihave Q1 := (show xpay X Wt 4 0 c ⊢ owns (c : Thread nD τ) (amSlot 0) fullShare.left (amV X Wt c) from Idealize.SL.BI.Entails.refl _) $$ Q1
  iapply (wp_wait_x X Wt K c 5 0 [] (by decide) rfl) $$ [H2 HO]
  · isplitr; · iexact HR
    isplitl [H2]; · iexact H2
    iexact HO
  iintro ⟨Q2, E2, HO⟩
  ihave Q2 := (show xpay X Wt 5 0 c ⊢ owns (c : Thread nD τ) (amSlot 1) fullShare (amV X Wt (amSrc 1 c)) from Idealize.SL.BI.Entails.refl _) $$ Q2
  rw [wp_ret]; imodintro
  iapply Hk
  isplitl [P1]; · iexact P1
  isplitl [Q1]; · iexact Q1
  isplitl [E1]; · iexact E1
  isplitl [Q2]; · iexact Q2
  isplitl [E2]; · iexact E2
  iexact HO

/-- The second one's tile, and the sends done. -/
theorem part15_run (w375 : BitVec 32) (w396 : BitVec 32) (Q : PUnit → sProp (MT nD τ sig Unit (Elt F) ℕ UU ℕ)) :
    iprop(Rec X Wt K ∗ pend 4 1 c ∗ pend 5 1 c ∗ pend 4 2 c ∗ ow c (debt c [])
        ∗ (iprop(owns (c : Thread nD τ) (amSlot 0) fullShare.right.left (amV X Wt c) ∗ done 4 1 c ∗ owns (c : Thread nD τ) (amSlot 2) fullShare (amV X Wt (amSrc 2 c)) ∗ done 5 1 c ∗ owns (c : Thread nD τ) (amSlot 0) fullShare.right.right (amV X Wt c) ∗ done 4 2 c ∗ ow c (debt c [])) -∗ Q ⟨⟩))
      ⊢ wp frame (wpE (defs₀ (F := F)) 𝒱₀ c none) Set.univ
          (k0_part15 xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8 w375 w396) Q := by
  rw [k0_part15_eq_skeleton]; unfold k0_part15_skel
  simp only [semSignalWord, semWaitWord, Prog.lift, Prog.bind_op, Prog.bind_ret, Prog.pure_eq_ret, wp_deviceId]
  iintro ⟨#HR, H1, H2, H3, HO, Hk⟩
  iapply (wp_wait_x X Wt K c 4 1 [] (by decide) rfl) $$ [H1 HO]
  · isplitr; · iexact HR
    isplitl [H1]; · iexact H1
    iexact HO
  iintro ⟨Q1, E1, HO⟩
  ihave Q1 := (show xpay X Wt 4 1 c ⊢ owns (c : Thread nD τ) (amSlot 0) fullShare.right.left (amV X Wt c) from Idealize.SL.BI.Entails.refl _) $$ Q1
  iapply (wp_wait_x X Wt K c 5 1 [] (by decide) rfl) $$ [H2 HO]
  · isplitr; · iexact HR
    isplitl [H2]; · iexact H2
    iexact HO
  iintro ⟨Q2, E2, HO⟩
  ihave Q2 := (show xpay X Wt 5 1 c ⊢ owns (c : Thread nD τ) (amSlot 2) fullShare (amV X Wt (amSrc 2 c)) from Idealize.SL.BI.Entails.refl _) $$ Q2
  iapply (wp_wait_x X Wt K c 4 2 [] (by decide) rfl) $$ [H3 HO]
  · isplitr; · iexact HR
    isplitl [H3]; · iexact H3
    iexact HO
  iintro ⟨Q3, E3, HO⟩
  ihave Q3 := (show xpay X Wt 4 2 c ⊢ owns (c : Thread nD τ) (amSlot 0) fullShare.right.right (amV X Wt c) from Idealize.SL.BI.Entails.refl _) $$ Q3
  rw [wp_ret]; imodintro
  iapply Hk
  isplitl [Q1]; · iexact Q1
  isplitl [E1]; · iexact E1
  isplitl [Q2]; · iexact Q2
  isplitl [E2]; · iexact E2
  isplitl [Q3]; · iexact Q3
  isplitl [E3]; · iexact E3
  iexact HO

end Cert.Ring
-- ==== Proof.Body.lean ====
/-
# 01_k — the program on one device

The parts run one after another, from what the launch gives a device to what the device leaves.
-/
module

public import proofs.«01_k».proof.Proof.Parts

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x4096 .bf16) (Wt : Dev nD → Vec F S4096x512 .bf16)
variable (K : Dev nD × Option (Fin 6 × Fin 3) → ℕ) (c : Dev nD)

/-! ## Families of three, four and six -/

theorem bigSep_three (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ
theorem bigSep_four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ
theorem bigSep_six (Φ : Fin 6 → sProp (MT nD τ sig Unit (Elt F) ℕ UU ℕ)) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## What the launch gives, and what is left -/

/-- A device's part in the handshake: the duties it has to its neighbours, and its own wait for both. -/
def greet : sProp 𝕄 :=
  iprop(dutyTok ER (barCell (prv c)) 0 false ∗ dutyTok ER (barCell (nxt c)) 0 true ∗ atPos ER (barCell c) 0 ∅ 0
    ∗ cred (tallyAt (barCell c) () 2))

/-- A device's part in the copies of number `h`: those it starts, and those it receives. -/
def copies (h : Fin 3) : sProp 𝕄 :=
  iprop(ready 0 1 h c ∗ ready 2 3 h c ∗ ready 4 5 h c ∗ pend 1 h c ∗ pend 3 h c ∗ pend 5 h c)

/-- The three stacks, whatever they hold. -/
def scratch : sProp 𝕄 := iprop(free c cwM ∗ free c ccwM ∗ free c amM)

/-- All the copy semaphores of a device at zero. -/
def allDone : sProp 𝕄 := bigSep Finset.univ fun f : Fin 6 => bigSep Finset.univ fun h : Fin 3 => done f h c

/-- A stack of three, or the stack of maxima, and its slots. -/
theorem slots3 (M : Memref sig .tc .vmem S3x512x4096 .bf16) : (free c M : sProp 𝕄)
    ⊢ iprop(free c (slot M squeezes_S1x512x4096_S512x4096 0) ∗ free c (slot M squeezes_S1x512x4096_S512x4096 1)
        ∗ free c (slot M squeezes_S1x512x4096_S512x4096 2)) := by
  iintro ⟨%Z, H⟩
  ihave Hs := (slots_of_stack (c : Thread nD τ) M fullShare squeezes_S1x512x4096_S512x4096 Z) $$ H
  ihave Ht := (Entails.of_eq (bigSep_three _)) $$ Hs
  icases Ht with ⟨H0, H1, H2⟩
  isplitl [H0]; · iexists _; iexact H0
  isplitl [H1]; · iexists _; iexact H1
  iexists _; iexact H2
theorem slots4 : (free c amM : sProp 𝕄) ⊢ iprop(free c (amSlot 0) ∗ free c (amSlot 1) ∗ free c (amSlot 2) ∗ free c (amSlot 3)) := by
  iintro ⟨%Z, H⟩
  ihave Hs := (slots_of_stack (c : Thread nD τ) amM fullShare squeezes_S1x8x128_S8x128 Z) $$ H
  ihave Ht := (Entails.of_eq (bigSep_four _)) $$ Hs
  icases Ht with ⟨H0, H1, H2, H3⟩
  isplitl [H0]; · iexists _; iexact H0
  isplitl [H1]; · iexists _; iexact H1
  isplitl [H2]; · iexists _; iexact H2
  iexists _; iexact H3
theorem stack3 (M : Memref sig .tc .vmem S3x512x4096 .bf16) (Y : Fin 3 → Vec F S512x4096 .bf16) :
    (iprop((owns (c : Thread nD τ) (slot M squeezes_S1x512x4096_S512x4096 0) leftShare (Y 0)
          ∗ owns (c : Thread nD τ) (slot M squeezes_S1x512x4096_S512x4096 0) rightShare (Y 0))
        ∗ (owns (c : Thread nD τ) (slot M squeezes_S1x512x4096_S512x4096 1) leftShare (Y 1)
          ∗ owns (c : Thread nD τ) (slot M squeezes_S1x512x4096_S512x4096 1) rightShare (Y 1))
        ∗ owns (c : Thread nD τ) (slot M squeezes_S1x512x4096_S512x4096 2) fullShare (Y 2)) : sProp 𝕄) ⊢ free c M := by
  iintro ⟨H0, H1, H2⟩
  ihave H0 := (owns_unsplit c (slot M squeezes_S1x512x4096_S512x4096 0) fullShare (Y 0)) $$ H0
  ihave H1 := (owns_unsplit c (slot M squeezes_S1x512x4096_S512x4096 1) fullShare (Y 1)) $$ H1
  iexists _
  iapply (stack_of_slots (c : Thread nD τ) M fullShare squeezes_S1x512x4096_S512x4096 Y)
  rw [bigSep_three]
  isplitl [H0]; · iexact H0
  isplitl [H1]; · iexact H1
  iexact H2

/-- The stack of maxima when all have arrived. -/
def amAll : Vec F S4x8x128 .f32 := fun x => amV X Wt (amSrc (x 0) c) (ix2 (x 1) (x 2))

theorem amSrc_zero (c : Dev nD) : amSrc 0 c = c := by revert c; decide

theorem stack4 :
    (iprop((owns (c : Thread nD τ) (amSlot 0) fullShare.left (amV X Wt c)
          ∗ owns (c : Thread nD τ) (amSlot 0) fullShare.right.left (amV X Wt c)
          ∗ owns (c : Thread nD τ) (amSlot 0) fullShare.right.right (amV X Wt c))
        ∗ owns (c : Thread nD τ) (amSlot 1) fullShare (amV X Wt (amSrc 1 c)) ∗ owns (c : Thread nD τ) (amSlot 2) fullShare (amV X Wt (amSrc 2 c))
        ∗ owns (c : Thread nD τ) (amSlot 3) fullShare (amV X Wt (amSrc 3 c))) : sProp 𝕄)
      ⊢ owns (c : Thread nD τ) amM fullShare (amAll X Wt c) := by
  iintro ⟨⟨Ha, Hbc⟩, H1, H2, H3⟩
  ihave Hr := (owns_unsplit c (amSlot 0) fullShare.right (amV X Wt c)) $$ Hbc
  ihave H0 := (owns_unsplit c (amSlot 0) fullShare (amV X Wt c)) $$ [Ha Hr]
  · isplitl [Ha] <;> iassumption
  iapply (stack_of_slots (c : Thread nD τ) amM fullShare squeezes_S1x8x128_S8x128 fun h => amV X Wt (amSrc h c))
  rw [bigSep_four]
  isplitl [H0]
  · rw [amSrc_zero]; iexact H0
  isplitl [H1]; · iexact H1
  isplitl [H2]; · iexact H2
  iexact H3

/-- The corners of the four tiles. -/
theorem corners : (fun j => amAll X Wt c ((Rect.unit (s := S4x8x128) ![0, 0, 0] S4x1x1.size inb_S4x8x128_S4x1x1_0_0_0).emb j)) = tops X Wt c := by
  funext j
  have h1 : (j 1).val < 1 := (j 1).isLt
  have h2 : (j 2).val < 1 := (j 2).isLt
  have e0 : (Rect.unit (s := S4x8x128) ![0, 0, 0] S4x1x1.size inb_S4x8x128_S4x1x1_0_0_0).emb j 0 = j 0 :=
    Fin.ext (show 0 + 1 * (j 0).val = (j 0).val by omega)
  have e1 : (Rect.unit (s := S4x8x128) ![0, 0, 0] S4x1x1.size inb_S4x8x128_S4x1x1_0_0_0).emb j 1 = (0 : Fin 8) :=
    Fin.ext (show 0 + 1 * (j 1).val = 0 by omega)
  have e2 : (Rect.unit (s := S4x8x128) ![0, 0, 0] S4x1x1.size inb_S4x8x128_S4x1x1_0_0_0).emb j 2 = (0 : Fin 128) :=
    Fin.ext (show 0 + 1 * (j 2).val = 0 by omega)
  unfold amAll tops
  rw [e0, e1, e2]

/-- What the device has when its program is done. -/
def left : sProp 𝕄 :=
  iprop(owns (c : Thread nD τ) xM fullShare (X c) ∗ owns (c : Thread nD τ) wM fullShare (Wt c)
    ∗ owns (c : Thread nD τ) oM fullShare (outV X Wt c) ∗ scratch c ∗ semVal (barCell c) 0 ∗ allDone c ∗ ow c 0)

set_option maxHeartbeats 1000000 in
/-- The program on device `c`. -/
theorem body_run (Q : PUnit → sProp (MT nD τ sig Unit (Elt F) ℕ UU ℕ)) :
    iprop(Rec X Wt K ∗ greet c ∗ (bigSep Finset.univ fun h : Fin 3 => copies c h) ∗ ow c (owe0 c)
        ∗ owns (c : Thread nD τ) xM fullShare (X c) ∗ owns (c : Thread nD τ) wM fullShare (Wt c) ∗ free c oM ∗ scratch c
        ∗ (left X Wt c -∗ Q ⟨⟩))
      ⊢ wp frame (wpE (defs₀ (F := F)) 𝒱₀ c none) Set.univ
          (cc0_body xM (Memref.isWhole_whole _) wM (Memref.isWhole_whole _) oM (Memref.isWhole_whole _) cwM (Memref.isWhole_whole _)
            ccwM (Memref.isWhole_whole _) amM (Memref.isWhole_whole _) cc0_scratch3 cc0_scratch4 cc0_scratch5 cc0_scratch6 cc0_scratch7 cc0_scratch8) Q := by
  rw [cc0_body_eq_skeleton]; unfold cc0_body_skel
  rw [bigSep_three]
  unfold greet copies scratch
  iintro ⟨#HR, ⟨Ht1, Ht2, Hat, Hcr⟩, ⟨⟨Ra0, Rb0, Rc0, Pa0, Pb0, Pc0⟩, ⟨Ra1, Rb1, Rc1, Pa1, Pb1, Pc1⟩, ⟨Ra2, Rb2, Rc2, Pa2, Pb2, Pc2⟩⟩, HO, Hx, Hw, ⟨%Z, Hout⟩, ⟨SA, SB, SM⟩, Hk⟩
  ihave Hout := (held_of_owns (accV X Wt c) c Z) $$ Hout
  ihave SA := (slots3 c cwM) $$ SA
  icases SA with ⟨A0, A1, A2⟩
  ihave SB := (slots3 c ccwM) $$ SB
  icases SB with ⟨B0, B1, B2⟩
  ihave SM := (slots4 c) $$ SM
  icases SM with ⟨M0, M1, M2, M3⟩
  rw [wp_bind]
  iapply (part1_run X Wt K c)
  isplitr; · iexact HR
  isplitl [Ht1]; · iexact Ht1
  isplitl [Ht2]; · iexact Ht2
  isplitl [Hat]; · iexact Hat
  isplitl [Hcr]; · iexact Hcr
  isplitl [HO]; · iexact HO
  isplitl [A0]; · iexact A0
  isplitl [A1]; · iexact A1
  isplitl [A2]; · iexact A2
  isplitl [M1]; · iexact M1
  isplitl [B0]; · iexact B0
  isplitl [B1]; · iexact B1
  isplitl [B2]; · iexact B2
  isplitl [M3]; · iexact M3
  isplitl [M2]; · iexact M2
  iintro %w2 %w13 %w24 ⟨HN, HP, Hbar, HO⟩
  try dsimp only
  unfold barPayN barPayP
  icases HN with ⟨D1a, D1b, D1c, Dm1⟩
  icases HP with ⟨D2a, D2b, D2c, Dm3, Dm2⟩
  ihave Dm2 := (Entails.of_eq (congrArg (fun d => (free d (amSlot 2) : sProp 𝕄)) (two_nxt c).symm)) $$ Dm2
  rw [wp_bind]
  iapply (part2_run X Wt K c w2 w13 w24)
  isplitr; · iexact HR
  isplitl [Ra0]; · iexact Ra0
  isplitl [Rb0]; · iexact Rb0
  isplitl [Hx]; · iexact Hx
  isplitl [Hw]; · iexact Hw
  isplitl [D1a]; · iexact D1a
  isplitl [D2a]; · iexact D2a
  isplitl [Dm2]; · iexact Dm2
  isplitl [Hout]; · iexact Hout
  isplitl [HO]; · iexact HO
  iintro ⟨Qa0, Qb0, Hx, Hw, Hout, HO⟩
  try dsimp only
  rw [wp_bind]
  iapply (part3_run X Wt K c w13 w24)
  isplitr; · iexact HR
  isplitl [Pa0]; · iexact Pa0
  isplitl [Pb0]; · iexact Pb0
  isplitl [Qa0]; · iexact Qa0
  isplitl [Qb0]; · iexact Qb0
  isplitl [HO]; · iexact HO
  iintro ⟨A0, Dm2, Za0, B0, Zb0, Xr0, Za0', Xr1, Zb0', HO⟩
  try dsimp only
  rw [wp_bind]
  iapply (part4_run X Wt K c w2 w13 w24)
  isplitr; · iexact HR
  isplitl [Ra1]; · iexact Ra1
  isplitl [Rb1]; · iexact Rb1
  isplitl [A0]; · iexact A0
  isplitl [B0]; · iexact B0
  isplitl [D1b]; · iexact D1b
  isplitl [D2b]; · iexact D2b
  isplitl [HO]; · iexact HO
  iintro %u1 %u2 %u3 ⟨Qa1, Qb1, A0, B0, HO⟩
  try dsimp only
  rw [wp_bind]
  iapply (part5_run X Wt K c w2 u1 u2 u3)
  isplitr; · iexact HR
  isplitl [A0]; · iexact A0
  isplitl [B0]; · iexact B0
  isplitl [Hw]; · iexact Hw
  isplitl [Hout]; · iexact Hout
  iintro ⟨A0, B0, Hw, Hout⟩
  try dsimp only
  rw [wp_bind]
  iapply (part6_run X Wt K c w13 w24 _ _ _)
  isplitr; · iexact HR
  isplitl [Pa1]; · iexact Pa1
  isplitl [Pb1]; · iexact Pb1
  isplitl [HO]; · iexact HO
  iintro ⟨A1, Za1, B1, Zb1, HO⟩
  try dsimp only
  rw [show k0_pay7 (k0_pay3 (X c) (Wt c)) (k0_pay5 (up (ccwV X 0 c)) (Wt c)) (k0_pay6 (up (cwV X 0 c)) (Wt c)) = top1 X Wt c from rfl]
  rw [wp_bind]
  iapply (part7_run X Wt K c w13 w24)
  isplitr; · iexact HR
  isplitl [Qa1]; · iexact Qa1
  isplitl [Qb1]; · iexact Qb1
  isplitl [Ra2]; · iexact Ra2
  isplitl [A1]; · iexact A1
  isplitl [D1c]; · iexact D1c
  isplitl [HO]; · iexact HO
  iintro ⟨A0', Za1', B0', Zb1', Qa2, A1, HO⟩
  try dsimp only
  rw [wp_bind]
  iapply (part8_run X Wt K c w2)
  isplitr; · iexact HR
  isplitl [Rb2]; · iexact Rb2
  isplitl [B1]; · iexact B1
  isplitl [D2c]; · iexact D2c
  isplitl [A1]; · iexact A1
  isplitl [Hw]; · iexact Hw
  isplitl [Hout]; · iexact Hout
  isplitl [HO]; · iexact HO
  iintro %u4 ⟨Qb2, B1, A1, Hw, Hout, HO⟩
  try dsimp only
  rw [wp_bind]
  iapply (part9_run X Wt K c w13 w24 u4 _)
  isplitr; · iexact HR
  isplitl [B1]; · iexact B1
  isplitl [Hw]; · iexact Hw
  isplitl [Hout]; · iexact Hout
  isplitl [Pa2]; · iexact Pa2
  isplitl [HO]; · iexact HO
  iintro %u5 %u6 ⟨B1, Hw, Hout, A2, Za2, HO⟩
  try dsimp only
  rw [show k0_pay10 (top1 X Wt c) (k0_pay8 (up (cwV X 1 c)) (Wt c)) (up (ccwV X 1 c)) (Wt c) = top2 X Wt c from rfl]
  rw [wp_bind]
  iapply (part10_run X Wt K c w2 u5 u6)
  isplitr; · iexact HR
  isplitl [Pb2]; · iexact Pb2
  isplitl [Qa2]; · iexact Qa2
  isplitl [Qb2]; · iexact Qb2
  isplitl [HO]; · iexact HO
  iintro %v1 %v2 %v3 %v4 %v5 ⟨B2, Zb2, A1', Za2', B1', Zb2', HO⟩
  try dsimp only
  rw [wp_bind]
  iapply (part11_run X Wt K c w2 v1 v2 v3 v4 v5)
  isplitr; · iexact HR
  isplitl [A2]; · iexact A2
  isplitl [B2]; · iexact B2
  isplitl [Hw]; · iexact Hw
  isplitl [Hout]; · iexact Hout
  iintro ⟨A2, B2, Hw, Hout⟩
  try dsimp only
  rw [wp_bind]
  iapply (part12_run X Wt K c w2)
  isplitr; · iexact HR
  isplitl [M0]; · iexact M0
  iintro %v6 M0
  try dsimp only
  rw [wp_bind]
  iapply (part13_run X Wt K c w2)
  isplitr; · iexact HR
  isplitl [Rc0]; · iexact Rc0
  isplitl [Rc1]; · iexact Rc1
  isplitl [M0]; · iexact M0
  isplitl [Dm1]; · iexact Dm1
  isplitl [Dm2]; · iexact Dm2
  isplitl [HO]; · iexact HO
  iintro %v7 %v8 ⟨Qc0, Qc1, M0, HO⟩
  try dsimp only
  rw [wp_bind]
  iapply (part14_run X Wt K c v6 v8)
  isplitr; · iexact HR
  isplitl [Rc2]; · iexact Rc2
  isplitl [M0]; · iexact M0
  isplitl [Dm3]; · iexact Dm3
  isplitl [Qc0]; · iexact Qc0
  isplitl [Pc0]; · iexact Pc0
  isplitl [HO]; · iexact HO
  iintro ⟨Qc2, M0a, Zc0', M1, Zc0, HO⟩
  try dsimp only
  rw [wp_bind]
  iapply (part15_run X Wt K c v7 v8)
  isplitr; · iexact HR
  isplitl [Qc1]; · iexact Qc1
  isplitl [Pc1]; · iexact Pc1
  isplitl [Qc2]; · iexact Qc2
  isplitl [HO]; · iexact HO
  iintro ⟨M0b, Zc1', M2, Zc1, M0c, Zc2', HO⟩
  try dsimp only
  simp only [Prog.lift, Prog.bind_op, Prog.bind_ret, Prog.pure_eq_ret]
  iapply (wp_wait_x X Wt K c 5 2 [] (by decide) rfl) $$ [Pc2 HO]
  · isplitr; · iexact HR
    isplitl [Pc2] <;> iassumption
  iintro ⟨P, Zc2, HO⟩
  ihave M3 := (show xpay X Wt 5 2 c ⊢ (owns (c : Thread nD τ) (amSlot 3) fullShare (amV X Wt (amSrc 3 c)) : sProp 𝕄) from Idealize.SL.BI.Entails.refl _) $$ P
  ihave HM := (stack4 X Wt c) $$ [M0a M0b M0c M1 M2 M3]
  · isplitl [M0a M0b M0c]
    · isplitl [M0a]; · iexact M0a
      isplitl [M0b] <;> iassumption
    isplitl [M1]; · iexact M1
    isplitl [M2] <;> iassumption
  iapply (wp_load_owns (c : Thread nD τ) 𝒱₀ none (m := amM)) $$ HM
  iintro HM
  rw [corners]
  ihave Hout := (owns_of_held (accV X Wt c) c ((bands c).take 8) (bands_all c)) $$ Hout
  iapply (wp_load_whole c oM fullShare (accV X Wt c)) $$ Hout
  iintro Hout
  iapply (wp_load_whole c oM fullShare (accV X Wt c)) $$ Hout
  iintro Hout
  ihave Hout := (held_of_owns (outV X Wt c) c (accV X Wt c)) $$ Hout
  iapply (wp_store_held (outV X Wt c) c [] [0, 1, 2, 3, 4, 5, 6, 7] 0 8 rfl rfl rfl
    (fun x i h0 h1 => congrArg (k0_pay1 (tops X Wt c) (accV X Wt c)) (funext fun a => match a with
      | ⟨0, _⟩ => Fin.ext (by show (x 0).val = (i 0).val; omega)
      | ⟨1, _⟩ => Fin.ext h1.symm)) (by decide)) $$ Hout
  iintro Hout
  ihave Hout := (owns_of_held (outV X Wt c) c [0, 1, 2, 3, 4, 5, 6, 7] (by decide)) $$ Hout
  rw [wp_ret]; imodintro
  iapply Hk
  unfold left scratch allDone
  isplitl [Hx Xr0 Xr1]
  · iapply (owns_unsplit c xM fullShare (X c))
    isplitl [Hx]; · iexact Hx
    iapply (x_unhalve c rightShare (X c))
    isplitl [Xr0] <;> iassumption
  isplitl [Hw]; · iexact Hw
  isplitl [Hout]; · iexact Hout
  isplitl [A0 A0' A1 A1' A2 B0 B0' B1 B1' B2 HM]
  · isplitl [A0 A0' A1 A1' A2]
    · iapply (stack3 c cwM fun h => cwV X h c)
      isplitl [A0 A0']
      · isplitl [A0] <;> iassumption
      isplitl [A1 A1']
      · isplitl [A1] <;> iassumption
      iexact A2
    isplitl [B0 B0' B1 B1' B2]
    · iapply (stack3 c ccwM fun h => ccwV X h c)
      isplitl [B0 B0']
      · isplitl [B0] <;> iassumption
      isplitl [B1 B1']
      · isplitl [B1] <;> iassumption
      iexact B2
    iexists _; iexact HM
  isplitl [Hbar]; · iexact Hbar
  isplitr [HO]
  · rw [bigSep_six, bigSep_three, bigSep_three, bigSep_three, bigSep_three, bigSep_three, bigSep_three]
    isplitl [Za0' Za1' Za2']
    · isplitl [Za0']; · iexact Za0'
      isplitl [Za1'] <;> iassumption
    isplitl [Za0 Za1 Za2]
    · isplitl [Za0]; · iexact Za0
      isplitl [Za1] <;> iassumption
    isplitl [Zb0' Zb1' Zb2']
    · isplitl [Zb0']; · iexact Zb0'
      isplitl [Zb1'] <;> iassumption
    isplitl [Zb0 Zb1 Zb2]
    · isplitl [Zb0]; · iexact Zb0
      isplitl [Zb1] <;> iassumption
    isplitl [Zc0' Zc1' Zc2']
    · isplitl [Zc0']; · iexact Zc0'
      isplitl [Zc1'] <;> iassumption
    isplitl [Zc0]; · iexact Zc0
    isplitl [Zc1] <;> iassumption
  iexact HO

end Cert.Ring

end
-- ==== Proof.Deal.lean ====
/-
# 01_k — what the launch deals out

The launch makes every cell with its duties and gives each to the device the cell is on. The duties then go to whoever
carries them out: those of the barriers to the neighbours, those of the receives to the senders. With them goes the
credit for what the others owe a device.
-/
module

public import proofs.«01_k».proof.Proof.Body

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x4096 .bf16) (Wt : Dev nD → Vec F S4096x512 .bf16)

/-! ## Cells and duties -/

theorem csem_injective : Function.Injective csem := by
  rintro (_ | ⟨f, h⟩) (_ | ⟨f', h'⟩) e
  · rfl
  · cases e
  · cases e
  · have := congrArg famOf e
    dsimp only [csem] at this
    rw [famOf_xsem, famOf_xsem] at this
    exact this

theorem kcell_injective : Function.Injective (kcell : Dev nD × Option (Fin 6 × Fin 3) → GSem nD τ sig) := by
  rintro ⟨c, k⟩ ⟨c', k'⟩ e
  have h1 : c = c' := congrArg (fun g : GSem nD τ sig => g.1.1) e
  subst h1
  exact congrArg (Prod.mk c) (csem_injective (congrArg Prod.snd e))

/-- All the cells of the launch. -/
def allCells : Finset (GSem nD τ sig) := Finset.univ.map ⟨kcell, kcell_injective⟩

/-- The duties of a device's cells: two of its barrier, one of each copy semaphore. -/
abbrev dutyAt (cj : Dev nD × (Bool ⊕ (Fin 6 × Fin 3))) : GSem nD τ sig × ℕ × Bool :=
  match cj.2 with
  | .inl b => (barCell cj.1, 0, b)
  | .inr p => (xCell p.1 p.2 cj.1, 0, false)

theorem dutyAt_injective : Function.Injective dutyAt := by
  rintro ⟨c, j⟩ ⟨c', j'⟩ e
  have h1 : c = c' := by
    have := congrArg (fun x : GSem nD τ sig × ℕ × Bool => x.1.1.1) e
    rcases j with b | p <;> rcases j' with b' | p' <;> exact this
  subst h1
  rcases j with b | p <;> rcases j' with b' | p'
  · exact congrArg (fun b => (c, Sum.inl b)) (congrArg (fun x : GSem nD τ sig × ℕ × Bool => x.2.2) e)
  · have := congrArg (fun x : GSem nD τ sig × ℕ × Bool => x.1.2) e; cases this
  · have := congrArg (fun x : GSem nD τ sig × ℕ × Bool => x.1.2) e; cases this
  · have h2 : csem (some p) = csem (some p') := congrArg (fun x : GSem nD τ sig × ℕ × Bool => x.1.2) e
    exact congrArg (fun p => (c, Sum.inr p)) (Option.some.inj (csem_injective h2))

/-- All the duties of the launch. -/
def allDuties : Finset (GSem nD τ sig × ℕ × Bool) := Finset.univ.map ⟨dutyAt, dutyAt_injective⟩

/-- A family over the cells of one device: the copies', and the barrier's. -/
theorem bigSep_opt (Φ : Option (Fin 6 × Fin 3) → sProp (MT nD τ sig Unit (Elt F) ℕ UU ℕ)) :
    bigSep Finset.univ Φ = iprop((bigSep Finset.univ fun p => Φ (some p)) ∗ Φ none) := by
  rw [bigSep_univ_equiv (Equiv.optionEquivSumPUnit.{0} (Fin 6 × Fin 3)).symm Φ, bigSep_univ_sum, show (Finset.univ : Finset PUnit.{1}) = {⟨⟩} from rfl, bigSep_singleton]
  rfl

theorem bigSep_both (Φ : Bool → sProp (MT nD τ sig Unit (Elt F) ℕ UU ℕ)) : bigSep Finset.univ Φ = iprop(Φ false ∗ Φ true) :=
  bigSep_univ_eq_bigSepL [false, true] (by decide) (by decide) Φ

/-! ## Who carries a duty out -/

set_option backward.proofsInPublic true in
/-- Who sends to device `c`'s receive semaphore. -/
def src (f : Fin 6) (h : Fin 3) (c : Dev nD) : Dev nD :=
  match f with
  | 1 => prv c
  | 3 => nxt c
  | _ => ahead (3 - h.val) c

theorem tgt_src (f : Fin 6) (h : Fin 3) (c : Dev nD) : tgt f h (src f h c) = c := by revert f h c; decide
theorem src_tgt (f : Fin 6) (h : Fin 3) (c : Dev nD) : src f h (tgt f h c) = c := by revert f h c; decide

set_option backward.proofsInPublic true in
/-- The device whose semaphore a device's copy reaches: of a send semaphore its own, of a receive semaphore the target's. -/
def dest (f : Fin 6) (h : Fin 3) (c : Dev nD) : Dev nD :=
  match f with
  | 1 => tgt 1 h c
  | 3 => tgt 3 h c
  | 5 => tgt 5 h c
  | _ => c

set_option backward.proofsInPublic true in
def orig (f : Fin 6) (h : Fin 3) (c : Dev nD) : Dev nD :=
  match f with
  | 1 => src 1 h c
  | 3 => src 3 h c
  | 5 => src 5 h c
  | _ => c

theorem dest_orig (f : Fin 6) (h : Fin 3) (c : Dev nD) : dest f h (orig f h c) = c := by revert f h c; decide
theorem orig_dest (f : Fin 6) (h : Fin 3) (c : Dev nD) : orig f h (dest f h c) = c := by revert f h c; decide

/-- The copies' duties by the device that carries them out. -/
def deal : Dev nD × (Fin 6 × Fin 3) ≃ Dev nD × (Fin 6 × Fin 3) where
  toFun x := (dest x.2.1 x.2.2 x.1, x.2)
  invFun x := (orig x.2.1 x.2.2 x.1, x.2)
  left_inv x := Prod.ext (orig_dest _ _ _) rfl
  right_inv x := Prod.ext (dest_orig _ _ _) rfl

/-- The step to the next device. -/
def step : Dev nD ≃ Dev nD where
  toFun := nxt
  invFun := prv
  left_inv := prv_nxt
  right_inv := nxt_prv

/-! ## What a device has of it -/

/-- The places at a device's cells. -/
def places (c : Dev nD) : sProp 𝕄 := bigSep Finset.univ fun k : Option (Fin 6 × Fin 3) => atPos ER (kcell (c, k)) 0 ∅ 0

/-- The duties of a device's own cells. -/
def ownDuties (c : Dev nD) : sProp 𝕄 :=
  iprop((dutyTok ER (barCell c) 0 false ∗ dutyTok ER (barCell c) 0 true)
    ∗ bigSep Finset.univ fun p : Fin 6 × Fin 3 => dutyTok ER (xCell p.1 p.2 c) 0 false)

/-- The duties a device carries out. -/
def myDuties (c : Dev nD) : sProp 𝕄 :=
  iprop((dutyTok ER (barCell (prv c)) 0 false ∗ dutyTok ER (barCell (nxt c)) 0 true)
    ∗ bigSep Finset.univ fun p : Fin 6 × Fin 3 => dutyTok ER (xCell p.1 p.2 (dest p.1 p.2 c)) 0 false)

theorem duties_dealt : (bigSep Finset.univ fun c : Dev nD => (ownDuties c : sProp 𝕄)) ⊢ bigSep Finset.univ fun c : Dev nD => myDuties c := by
  unfold ownDuties myDuties
  rw [bigSep_sep', bigSep_sep', bigSep_sep', bigSep_sep',
    bigSep_univ_equiv step.symm (fun c : Dev nD => (dutyTok ER (barCell c) 0 false : sProp 𝕄)),
    bigSep_univ_equiv step (fun c : Dev nD => (dutyTok ER (barCell c) 0 true : sProp 𝕄)),
    ← bigSep_univ_prod (fun x : Dev nD × (Fin 6 × Fin 3) => (dutyTok ER (xCell x.2.1 x.2.2 x.1) 0 false : sProp 𝕄)),
    bigSep_univ_equiv deal (fun x : Dev nD × (Fin 6 × Fin 3) => (dutyTok ER (xCell x.2.1 x.2.2 x.1) 0 false : sProp 𝕄)),
    bigSep_univ_prod]
  exact Idealize.SL.BI.Entails.refl _

/-- The cells' invariants, at some names, and that each is at its first round. -/
def recs (K : Dev nD × Option (Fin 6 × Fin 3) → ℕ) : sProp 𝕄 :=
  bigSep Finset.univ fun ck : Dev nD × Option (Fin 6 × Fin 3) => iprop(cellInv ER (Rd X Wt) (K ck) (kcell ck) ∗ reached ER (kcell ck) 0)

instance recs_persistent (K : Dev nD × Option (Fin 6 × Fin 3) → ℕ) : BI.Persistent (recs X Wt K) := by unfold recs; infer_instance

/-- What is made for device `c`'s cells; -/
def made (c : Dev nD) : sProp 𝕄 :=
  iprop((bigSep Finset.univ fun k : Option (Fin 6 × Fin 3) => roundState ER (Rd X Wt) (kcell (c, k)) 0)
    ∗ (bigSep Finset.univ fun k : Option (Fin 6 × Fin 3) => reached ER (kcell (c, k)) 0) ∗ places c ∗ ownDuties c)

/-- and what the device sets out with. -/
def dealt (c : Dev nD) : sProp 𝕄 := iprop(∃ K, recs X Wt K ∗ places c ∗ myDuties c)

theorem made_all : BI.own (ER (initOf allCells allDuties)) ⊢ (|==> bigSep Finset.univ (made X Wt) : sProp 𝕄) := by
  have hC (Φ : GSem nD τ sig → sProp (MT nD τ sig Unit (Elt F) ℕ UU ℕ)) :
      bigSep allCells Φ = bigSep Finset.univ fun c : Dev nD => bigSep Finset.univ fun k : Option (Fin 6 × Fin 3) => Φ (kcell (c, k)) := by
    unfold allCells; rw [bigSep_map, bigSep_univ_prod]; rfl
  have hD : bigSep allDuties (fun x => (dutyTok ER x.1 x.2.1 x.2.2 : sProp 𝕄)) = bigSep Finset.univ fun c : Dev nD => ownDuties c := by
    unfold allDuties; rw [bigSep_map, bigSep_univ_prod]
    refine bigSep_congr fun c _ => ?_
    unfold ownDuties
    rw [bigSep_univ_sum, bigSep_both]; rfl
  iintro H
  imod (Rounds.fund ER (Rd X Wt) allCells allDuties) $$ H with ⟨Hst, Hr, Hat, Htok⟩
  imodintro
  ihave Hst := (Entails.of_eq (hC fun g => roundState ER (Rd X Wt) g 0)) $$ Hst
  ihave Hr := (Entails.of_eq (hC fun g => reached ER g 0)) $$ Hr
  ihave Hat := (Entails.of_eq (hC fun g => atPos ER g 0 ∅ 0)) $$ Hat
  ihave Htok := (Entails.of_eq hD) $$ Htok
  unfold made places
  rw [bigSep_sep', bigSep_sep', bigSep_sep']
  isplitl [Hst]; · iexact Hst
  isplitl [Hr]; · iexact Hr
  isplitl [Hat] <;> iassumption

/-! ## Semaphores -/

/-- The kernel's own semaphores: those of the copies. -/
abbrev osem (p : Fin 6 × Fin 3) : SemLoc sig := .dma (xsem p.1 p.2)

theorem own_allDone (c : Dev nD) :
    (Pipeline.ownSems0 (Ix := Unit) (Name := ℕ) (U := UU) (Lvl := ℕ) (Val := Elt F) (τ := τ) osem c : sProp 𝕄) = allDone c := by
  unfold Pipeline.ownSems0 allDone done; rw [bigSep_univ_prod]
theorem unscoped_bar (c : Dev nD) : (unscopedSems0 c : sProp 𝕄) = semVal (barCell c) 0 := by
  unfold unscopedSems0; rw [bigSep_eq_bigSepL_of_eq [SemLoc.reg barS] (by decide) (by decide)]; rfl

theorem sems_cells (c : Dev nD) :
    (iprop(Pipeline.ownSems0 (Ix := Unit) (Name := ℕ) (U := UU) (Lvl := ℕ) (Val := Elt F) (τ := τ) osem c ∗ unscopedSems0 c) : sProp 𝕄)
      = bigSep Finset.univ fun k : Option (Fin 6 × Fin 3) => semVal (kcell (c, k)) 0 := by
  rw [unscoped_bar, bigSep_opt]; rfl

/-- A device's semaphores become the cells. -/
theorem cells_of (c : Dev nD) :
    (iprop(Pipeline.ownSems0 (Ix := Unit) (Name := ℕ) (U := UU) (Lvl := ℕ) (Val := Elt F) (τ := τ) osem c ∗ unscopedSems0 c ∗ made X Wt c) : sProp 𝕄)
      ⊢ |={Set.univ}=> iprop((bigSep Finset.univ fun k => iprop(∃ κ : ℕ, cellInv ER (Rd X Wt) κ (kcell (c, k))))
          ∗ (bigSep Finset.univ fun k => reached ER (kcell (c, k)) 0) ∗ places c ∗ ownDuties c) := by
  unfold made
  iintro ⟨Hos, Hus, Hst, Hrest⟩
  ihave Hv := (Entails.of_eq (sems_cells (F := F) c)) $$ [Hos Hus]
  · isplitl [Hos] <;> iassumption
  imod (show iprop((bigSep Finset.univ fun k : Option (Fin 6 × Fin 3) => semVal (kcell (c, k)) 0)
        ∗ bigSep Finset.univ fun k : Option (Fin 6 × Fin 3) => roundState ER (Rd X Wt) (kcell (c, k)) 0)
      ⊢ (|={Set.univ}=> bigSep Finset.univ fun k => iprop(∃ κ : ℕ, cellInv ER (Rd X Wt) κ (kcell (c, k))) : sProp 𝕄) from by
        rw [← bigSep_sep']
        exact (bigSep_mono fun k _ => (Rounds.body_intro ER (Rd X Wt) (kcell (c, k))).trans inv_alloc).trans (bigSep_fupd _ _)) $$ [Hv Hst] with Hinv
  · isplitl [Hv] <;> iassumption
  imodintro
  isplitl [Hinv] <;> iassumption

theorem dealt_all :
    (bigSep Finset.univ fun c : Dev nD => iprop((bigSep Finset.univ fun k => iprop(∃ κ : ℕ, cellInv ER (Rd X Wt) κ (kcell (c, k))))
          ∗ (bigSep Finset.univ fun k => reached ER (kcell (c, k)) 0) ∗ places c ∗ ownDuties c) : sProp 𝕄)
      ⊢ bigSep Finset.univ (dealt X Wt) := by
  rw [bigSep_sep', bigSep_sep', bigSep_sep',
    ← bigSep_univ_prod (fun ck : Dev nD × Option (Fin 6 × Fin 3) => iprop(∃ κ : ℕ, cellInv ER (Rd X Wt) κ (kcell ck))),
    ← bigSep_univ_prod (fun ck : Dev nD × Option (Fin 6 × Fin 3) => (reached ER (kcell ck) 0 : sProp 𝕄))]
  iintro ⟨HI, #HR, Hat, Htok⟩
  ihave HK := (BI.bigSep_exists_pi Finset.univ (fun (ck : Dev nD × Option (Fin 6 × Fin 3)) (κ : ℕ) => (cellInv ER (Rd X Wt) κ (kcell ck) : sProp 𝕄))) $$ HI
  icases HK with ⟨%K, #HI⟩
  ihave Htk := (duties_dealt (F := F)) $$ Htok
  iapply (bigSep_with_persistent (R := recs X Wt K) (Φ := fun c : Dev nD => iprop(places c ∗ myDuties c)) fun c _ => by
    unfold dealt; iintro ⟨#H, Hp, Hd⟩; iexists K
    isplitr; · iexact H
    isplitl [Hp] <;> iassumption)
  isplitr
  · unfold recs; rw [bigSep_sep']; isplitr; · iexact HI
    iexact HR
  · rw [bigSep_sep']
    isplitl [Hat] <;> iassumption

/-- All the devices' semaphores become cells at once, and everything goes where it belongs. -/
theorem all_dealt :
    (bigSep Finset.univ fun c => iprop(Pipeline.ownSems0 (Ix := Unit) (Name := ℕ) (U := UU) (Lvl := ℕ) (Val := Elt F) (τ := τ) osem c ∗ unscopedSems0 c ∗ made X Wt c) : sProp 𝕄)
      ⊢ |={Set.univ}=> bigSep Finset.univ (dealt X Wt) :=
  ((bigSep_mono fun c _ => cells_of X Wt c).trans (bigSep_fupd _ _)).trans (BI.fupd_mono (dealt_all X Wt))

/-! ## Credit -/

/-- The credit of device `c`'s receive semaphores for the copies of a list. -/
def creds (c : Dev nD) : List (Fin 6 × Fin 3) → sProp (MT nD τ sig Unit (Elt F) ℕ UU ℕ)
  | [] => iprop(emp)
  | p :: l => iprop(creds c l ∗ cred (tallyAt (xCell p.1 p.2 c) () (amt p.1)))

theorem debt_creds (c : Dev nD) : ∀ l : List (Fin 6 × Fin 3), (Pipeline.launchCred (fun d => debt d l) c : sProp 𝕄) ⊢ creds c l
  | [] => Entails.of_eq (Pipeline.launchCred_zero c)
  | p :: l => by
    show (Pipeline.launchCred (fun d => debt d l + tallyAt (xCell p.1 p.2 (tgt p.1 p.2 d)) () (amt p.1)) c : sProp 𝕄) ⊢ _
    rw [Pipeline.launchCred_add]
    exact BIClass.sep_mono (debt_creds c l)
      (Pipeline.launchCred_tallyAt (.dma (xsem p.1 p.2)) (tgt p.1 p.2) (src p.1 p.2) (tgt_src p.1 p.2) (src_tgt p.1 p.2) () (amt p.1) c)

theorem launch_creds (c : Dev nD) :
    (Pipeline.launchCred owe0 c : sProp 𝕄) ⊢ iprop(creds c allCopies ∗ cred (tallyAt (barCell c) () 2)) := by
  show (Pipeline.launchCred (fun d => (debt d allCopies + tallyAt (barCell (nxt d)) () 1) + tallyAt (barCell (prv d)) () 1) c : sProp 𝕄) ⊢ _
  rw [Pipeline.launchCred_add (fun d => debt d allCopies + tallyAt (barCell (nxt d)) () 1), Pipeline.launchCred_add (fun d => debt d allCopies)]
  iintro ⟨⟨Hd, Hn⟩, Hp⟩
  ihave Hd := (debt_creds (F := F) c allCopies) $$ Hd
  ihave Hn := (Pipeline.launchCred_tallyAt (.reg barS) nxt prv nxt_prv prv_nxt () 1 c) $$ Hn
  ihave Hp := (Pipeline.launchCred_tallyAt (.reg barS) prv nxt prv_nxt nxt_prv () 1 c) $$ Hp
  isplitl [Hd]; · iexact Hd
  rw [show (tallyAt (barCell c) () 2 : CellTallies nD τ sig Unit) = tallyAt (barCell c) () 1 + tallyAt (barCell c) () 1 from (tallyAt_add (barCell c) () 1 1).symm]
  iapply (cred_add _ _).2
  isplitl [Hn] <;> iassumption

/-- The start of device `c`'s program. -/
theorem start_of (c : Dev nD) : (iprop(places c ∗ myDuties c ∗ creds c allCopies ∗ cred (tallyAt (barCell c) () 2)) : sProp 𝕄)
    ⊢ iprop(greet c ∗ bigSep Finset.univ fun h : Fin 3 => copies c h) := by
  unfold places myDuties
  rw [bigSep_opt, bigSep_univ_prod, bigSep_univ_prod, bigSep_six, bigSep_six]
  unfold greet copies ready pend
  simp only [bigSep_sep']
  iintro ⟨⟨⟨A0, A1, A2, A3, A4, A5⟩, Ab⟩, ⟨⟨Tf, Tt⟩, T0, T1, T2, T3, T4, T5⟩, Hcr, Hb⟩
  ihave Hcr := (show creds c allCopies ⊢ (iprop((((((((((emp ∗ cred (tallyAt (xCell 5 2 c) () (amt 5))) ∗ cred (tallyAt (xCell 5 1 c) () (amt 5)))
      ∗ cred (tallyAt (xCell 5 0 c) () (amt 5))) ∗ cred (tallyAt (xCell 3 2 c) () (amt 3))) ∗ cred (tallyAt (xCell 1 2 c) () (amt 1)))
      ∗ cred (tallyAt (xCell 3 1 c) () (amt 3))) ∗ cred (tallyAt (xCell 1 1 c) () (amt 1))) ∗ cred (tallyAt (xCell 3 0 c) () (amt 3)))
      ∗ cred (tallyAt (xCell 1 0 c) () (amt 1)))) : sProp 𝕄) from Idealize.SL.BI.Entails.refl _) $$ Hcr
  icases Hcr with ⟨⟨⟨⟨⟨⟨⟨⟨⟨-, C52⟩, C51⟩, C50⟩, C32⟩, C12⟩, C31⟩, C11⟩, C30⟩, C10⟩
  ihave C1 := (Entails.of_eq (bigSep_three fun h : Fin 3 => cred (tallyAt (xCell 1 h c) () (amt 1))).symm) $$ [C10 C11 C12]
  · isplitl [C10]; · iexact C10
    isplitl [C11] <;> iassumption
  ihave C3 := (Entails.of_eq (bigSep_three fun h : Fin 3 => cred (tallyAt (xCell 3 h c) () (amt 3))).symm) $$ [C30 C31 C32]
  · isplitl [C30]; · iexact C30
    isplitl [C31] <;> iassumption
  ihave C5 := (Entails.of_eq (bigSep_three fun h : Fin 3 => cred (tallyAt (xCell 5 h c) () (amt 5))).symm) $$ [C50 C51 C52]
  · isplitl [C50]; · iexact C50
    isplitl [C51] <;> iassumption
  isplitl [Tf Tt Ab Hb]
  · isplitl [Tf]; · iexact Tf
    isplitl [Tt]; · iexact Tt
    isplitl [Ab]; · iexact Ab
    iexact Hb
  isplitl [A0 T0 T1]
  · isplitl [A0]; · iexact A0
    isplitl [T0]; · iexact T0
    iexact T1
  isplitl [A2 T2 T3]
  · isplitl [A2]; · iexact A2
    isplitl [T2]; · iexact T2
    iexact T3
  isplitl [A4 T4 T5]
  · isplitl [A4]; · iexact A4
    isplitl [T4]; · iexact T4
    iexact T5
  isplitl [A1 C1]
  · isplitl [A1] <;> iassumption
  isplitl [A3 C3]
  · isplitl [A3] <;> iassumption
  isplitl [A5] <;> iassumption

end Cert.Ring

end
-- ==== Proof.Launch.lean ====
/-
# 01_k — the launch

What each device has before and after its program, the program as the launch runs it, and the run of all four: it ends,
with every semaphore at zero, the operands as they were, and each device's result the scaled columns.
-/
module

public import proofs.«01_k».proof.Proof.Deal
public import proofs.«01_k».proof.Proof.Gen.KernelIdeal.Points
public import Idealize.ShloMosaic.Lib.Pipeline.ValueKit
public import Idealize.ShloMosaic.Lib.Pipeline.CollectiveSegs

@[expose] public section

noncomputable section

namespace Cert.Ring

open Cert.KernelIdeal Cert.KernelIdeal.Gen Cert.Stack
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operands -/

/-- Each device's block of rows of `x`, and of columns of `w`, as the launch finds them. -/
abbrev xIn (c : Dev nD) : Vec F S1024x4096 .bf16 := m ((c : Thread nD τ).loc main_arg0)
abbrev wIn (c : Dev nD) : Vec F S4096x512 .bf16 := m ((c : Thread nD τ).loc main_arg1)

/-- The windows are the whole operands. -/
theorem whole_x (f : Vec F S1024x4096 .bf16) (t : Fin cfg0.N) : ((cfg0.win (0 : Fin 3)).blk t).view.read (Elt F) f = f := by
  funext j
  refine congrArg f (funext fun a => Fin.ext ?_)
  blk_simp
  exact (congrArg (· + (j a).val) (Nat.zero_mul _)).trans (Nat.zero_add _)
theorem whole_w (f : Vec F S4096x512 .bf16) (t : Fin cfg0.N) : ((cfg0.win (1 : Fin 3)).blk t).view.read (Elt F) f = f := by
  funext j
  refine congrArg f (funext fun a => Fin.ext ?_)
  blk_simp
  exact (congrArg (· + (j a).val) (Nat.zero_mul _)).trans (Nat.zero_add _)

/-! ## Before and after the program -/

def pre (c : Dev nD) : sProp 𝕄 :=
  iprop((∃ K, Rec (xIn m) (wIn m) K) ∗ greet c ∗ bigSep Finset.univ fun h : Fin 3 => copies c h)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => outV (xIn m) (wIn m) c
  Φ t := match t with
    | ⟨0, _⟩ => iprop(pre m c ∗ scratch c)
    | ⟨_ + 1, _⟩ => iprop(scratch c ∗ semVal (barCell c) 0 ∗ allDone c)
  q _ := fullShare
  owed t := match t with
    | ⟨0, _⟩ => owe0 c
    | ⟨_ + 1, _⟩ => 0

theorem before_x (c : Dev nD) (t : Fin cfg0.N) (d) : (dats m ρ 0 c).before (0 : Fin 3) t d = xIn m c := by
  unfold Dat.before; rw [if_pos (fetch0_0 t)]
  exact whole_x (xIn m c) t
theorem before_w (c : Dev nD) (t : Fin cfg0.N) (d) : (dats m ρ 0 c).before (1 : Fin 3) t d = wIn m c := by
  unfold Dat.before; rw [if_pos (fetch0_1 t)]
  exact whole_w (wIn m c) t

/-- The contents of a result's array after the run. -/
theorem result_final (c : Dev nD) : (dats m ρ 0 c).arrAt (2 : Fin 3) cfg0.N = outV (xIn m) (wIn m) c := by
  refine (dats m ρ 0 c).arrAt_eq_of_after_last (2 : Fin 3) t0_0 (by decide +kernel) _ fun j => ?_
  blk_simp
  rfl

/-- The program as the launch runs it. -/
theorem body_obligation (c : Dev nD) : BodyObligation (dats (F := F) m ρ 0 c) (defs₀ (F := F)) 𝒱₀ () Set.univ := fun t => by
  rw [fin_N0 t]
  rw [bigSep_W0, bigSep_W0]
  show (iprop((pre m c ∗ scratch c) ∗ (dats m ρ 0 c).owesAt () t0_0.castSucc
      ∗ (∃ d, owns (c : Thread nD τ) xM fullShare ((dats m ρ 0 c).before (0 : Fin 3) t0_0 d))
      ∗ (∃ d, owns (c : Thread nD τ) wM fullShare ((dats m ρ 0 c).before (1 : Fin 3) t0_0 d))
      ∗ (∃ d, owns (c : Thread nD τ) oM fullShare ((dats m ρ 0 c).before (2 : Fin 3) t0_0 d))) : sProp 𝕄)
    ⊢ wp frame (wpE (defs₀ (F := F)) 𝒱₀ c none) Set.univ
        (cc0_body xM (Memref.isWhole_whole _) wM (Memref.isWhole_whole _) oM (Memref.isWhole_whole _) cwM (Memref.isWhole_whole _)
          ccwM (Memref.isWhole_whole _) amM (Memref.isWhole_whole _) cc0_scratch3 cc0_scratch4 cc0_scratch5 cc0_scratch6 cc0_scratch7 cc0_scratch8)
        (fun _ => iprop((scratch c ∗ semVal (barCell c) 0 ∗ allDone c) ∗ (dats m ρ 0 c).owesAt () t0_0.succ
          ∗ owns (c : Thread nD τ) xM fullShare (xIn m c) ∗ owns (c : Thread nD τ) wM fullShare (wIn m c)
          ∗ owns (c : Thread nD τ) oM fullShare (outV (xIn m) (wIn m) c)))
  unfold pre Dat.owesAt Pipeline.owesWithin
  iintro ⟨⟨⟨⟨%K, HR⟩, Hg, Hc⟩, Hs⟩, ⟨%W, -, HO⟩, ⟨%d0, Hx⟩, ⟨%d1, Hw⟩, ⟨%d2, Ho⟩⟩
  rw [before_x, before_w]
  iapply (body_run (xIn m) (wIn m) K c)
  isplitl [HR]; · iexact HR
  isplitl [Hg]; · iexact Hg
  isplitl [Hc]; · iexact Hc
  isplitl [HO]; · unfold ow; iexists W; iexact HO
  isplitl [Hx]; · iexact Hx
  isplitl [Hw]; · iexact Hw
  isplitl [Ho]; · iexists _; iexact Ho
  isplitl [Hs]; · iexact Hs
  unfold left ow
  iintro ⟨Hx, Hw, Ho, Hs, Hb, Hd, ⟨%W', HO⟩⟩
  isplitl [Hs Hb Hd]
  · isplitl [Hs]; · iexact Hs
    isplitl [Hb] <;> iassumption
  isplitl [HO]
  · iexists W'
    isplitr; · ipureintro; exact fun _ _ => Or.inl trivial
    iexact HO
  isplitl [Hx]; · iexact Hx
  isplitl [Hw] <;> iassumption

/-! ## The launch's side -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allDuties)

theorem start_intro (c : Dev nD) :
    (iprop(Pipeline.unscopedRestP Pipeline.Prefetch.none cfg0.spec c (fun b => m ((c : Thread nD τ).loc b)) ∗ levAts L lv
        ∗ Pipeline.launchCred owe0 c ∗ prngReg c (ρ c) ∗ dealt (xIn m) (wIn m) c) : sProp 𝕄)
      ⊢ |={Set.univ}=> iprop(pre m c ∗ emp) := by
  iintro ⟨-, Hlev, Hcr, -, HG⟩
  unfold dealt
  icases HG with ⟨%K, Hr, Hp, Hd⟩
  ihave Hc := (launch_creds (F := F) c) $$ Hcr
  icases Hc with ⟨Hc, Hb⟩
  ihave Hs := (start_of (F := F) c) $$ [Hp Hd Hc Hb]
  · isplitl [Hp]; · iexact Hp
    isplitl [Hd]; · iexact Hd
    isplitl [Hc] <;> iassumption
  imodintro
  isplitl
  · unfold pre
    isplitl [Hr Hlev]
    · iexists K
      unfold Rec recs
      isplitl [Hr] <;> iassumption
    iexact Hs
  · iempintro

theorem scratch_eq (c : Dev nD) :
    (Pipeline.scopedRest (Ix := Unit) (Name := ℕ) (U := UU) (Lvl := ℕ) (Val := Elt F) cfg0.spec c : sProp 𝕄) = scratch c := by
  have e (b : Ref sig .tc) : (iprop(∃ f : Buf (Elt F) ((c : Thread nD τ).loc b), ((c : Thread nD τ).loc b) ↦{fullShare} f) : sProp 𝕄)
      = iprop(∃ Z, owns (c : Thread nD τ) (Memref.whole b) fullShare Z) :=
    congrArg BIBase.exists (funext fun f => (owns_whole (c : Thread nD τ) b fullShare f).symm)
  rw [scopedRest0_eq, e, e, e]
  rfl

theorem phi0_intro (c : Dev nD) :
    (iprop(pre m c ∗ Pipeline.prefHeld Pipeline.Prefetch.none c (fun _ => fullShare.right) (fun k => k.elim0)
        ∗ Pipeline.scopedRest cfg0.spec c) : sProp 𝕄) ⊢ (dats m ρ 0 c).Φ 0 := by
  rw [show (dats m ρ 0 c).Φ 0 = iprop(pre m c ∗ scratch c) from rfl, scratch_eq]
  iintro ⟨Hs, -, Hr⟩
  isplitl [Hs] <;> iassumption

theorem phi1_exit (c : Dev nD) :
    (dats m ρ 0 c).Φ (Fin.last cfg0.N) ⊢ (iprop(unscopedSems0 c ∗ Pipeline.ownSems0 osem c ∗ Pipeline.scopedRest cfg0.spec c) : sProp 𝕄) := by
  rw [show (dats m ρ 0 c).Φ (Fin.last cfg0.N) = iprop(scratch c ∗ semVal (barCell c) 0 ∗ allDone c) from rfl, scratch_eq, own_allDone, unscoped_bar]
  iintro ⟨Hs, Hb, Hd⟩
  isplitl [Hb]; · iexact Hb
  isplitl [Hd] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

set_option maxRecDepth 8000 in
/-- From any memory with the semaphores at zero, the four programs end, every window's array as the launch leaves it and
    every semaphore at zero. -/
theorem run_arrays : θ_run defs (onTc (τ := τ) (main (F := F))) (s₀ m ρ)
    (fun r => (∀ c : Dev nD, ∀ w : Fin cfg0.W, r.2.mem ((cfg0.win w).arr.view.loc (c : Thread nD τ)) = (dats m ρ 0 c).arrAt w cfg0.N)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := made (xIn m) (wIn m)) (G' := dealt (xIn m) (wIn m)) (u₀ := u₀)
    (hu₀ := by
      unfold u₀
      iintro Hu
      ihave H := (ownU_pair _ _) $$ Hu
      icases H with ⟨HP, HX⟩
      imod (made_all (xIn m) (wIn m)) $$ HX with HG
      imodintro
      isplitl [HP] <;> iassumption)
    (hglob := all_dealt (xIn m) (wIn m))
    (hA := fun _ _ => rfl) (hpf := fun _ k => k.elim0)
    (X := pre m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The same with the arrays named: the result is the scaled columns, the operands are as they were. -/
theorem run_main : θ_run defs (onTc (τ := τ) (main (F := F))) (s₀ m ρ)
    (fun r => (∀ c : Dev nD, r.2.mem ((c : Thread nD τ).loc main_v1) = outV (xIn m) (wIn m) c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨(h.1 c 2).trans (result_final m ρ c),
    (h.1 c 0).trans ((dats (F := F) m ρ 0 c).arrAt_in (0 : Fin 3) rfl _), (h.1 c 1).trans ((dats (F := F) m ρ 0 c).arrAt_in (1 : Fin 3) rfl _)⟩, h.2⟩)
    (run_arrays m ρ)

end Cert.Ring

end
-- ==== Proof.Value.lean ====
/-
# 01_k — the value

Over the extended reals the launch's result is the reference's. Two facts carry it: every entry of a device's columns is
the inner product of a row of `x` with a column of `w`, whichever device's rows it came from; and a maximum is known by
the numbers that bound it, so the largest of the devices' maxima, each taken in seven pieces, is the reference's single
maximum. The scaling and the rounding are then the same operations of the same numbers.
-/
module

public import proofs.«01_k».proof.Proof.Protocol
public import proofs.«01_k».proof.Proof.Gen.ReferenceIdeal
public import Idealize.ShloMosaic.Lib.Layout
public import Idealize.ShloMosaic.Lib.Pointwise

@[expose] public section

set_option maxRecDepth 16384

noncomputable section

/-! ## The reference, read at an index -/

namespace Cert.Ring.Whole

open Cert.ReferenceIdeal Cert.ReferenceIdeal.Gen
open Idealize.ShloMosaic

/-- The entries of the product of the whole arrays. -/
def entry (x : FVec Ideal S4096x4096 .bf16) (w : FVec Ideal S4096x2048 .bf16) (r : Fin 4096) (l : Fin 2048) : EReal :=
  ∑ k : Fin 4096, x (ix2 r k) * w (ix2 k l)

/-- The magnitude of such an entry. -/
abbrev mag (v : EReal) : EReal := FloatOps.absf (F := Ideal) (φ := .f32) v

/-- The smallest step: the scale of a maximum `t`. -/
abbrev step (t : EReal) : EReal := Ideal.div t (Ideal.ofBits .f32 0x42FE0000#32)

/-- An entry rounded to a multiple of the step, within 127 steps of zero. -/
abbrev rounded (v t : EReal) : EReal :=
  min (Ideal.ofBits .f32 0x42FE0000#32) (max (Ideal.ofBits .f32 0xC2FE0000#32)
    (Ideal.liftRound Ideal.roundHalfEven (Ideal.div v (step t)))) * step t

/-- The maximum of a family, begun from minus infinity. -/
abbrev peak {ι : Type} [Fintype ι] (f : ι → EReal) : EReal := Finset.univ.fold max (Ideal.ofBits .f32 0xFF800000#32) f

theorem neg_inf : Ideal.ofBits .f32 0xFF800000#32 = (⊥ : EReal) := by simp [Ideal.ofBits, Ideal.ieee]

/-- A maximum is at most `a` when every member is. -/
theorem peak_le {ι : Type} [Fintype ι] (f : ι → EReal) (a : EReal) : peak f ≤ a ↔ ∀ i, f i ≤ a := by
  rw [Finset.fold_max_le, neg_inf]
  simp

/-- The product as the reference forms it, of the operands cast to the wider format. -/
def product (x : FVec Ideal S4096x4096 .bf16) (w : FVec Ideal S4096x2048 .bf16) : FVec Ideal S4096x2048 .f32 :=
  Host.dotGeneral dot_S4096x4096_S4096x2048_S4096x2048_1_0_0_1_n_n none (extf .f32 x bitsLt_bf16_f32) (extf .f32 w bitsLt_bf16_f32)

/-- The reference's scale. -/
def scale (y : FVec Ideal S4096x2048 .f32) : FVec Ideal S_ .f32 :=
  Host.divf (Host.reduce FloatOps.maximumf (Host.absf y) (constant S_ .f32 0xFF800000#32) reducesTo_S4096x2048_S_d0_1 h_S_)
    (constant S_ .f32 0x42FE0000#32)

/-- The reference's result. -/
def result (x : FVec Ideal S4096x4096 .bf16) (w : FVec Ideal S4096x2048 .bf16) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (product x w) (broadcastInDim S4096x2048 ![] bcast_S_S4096x2048 (scale (product x w)))))))
    (broadcastInDim S4096x2048 ![] bcast_S_S4096x2048 (scale (product x w)))

theorem product_at (x : FVec Ideal S4096x4096 .bf16) (w : FVec Ideal S4096x2048 .bf16) (r : Fin 4096) (l : Fin 2048) :
    product x w (ix2 r l) = entry x w r l := by
  pointwise [product, entry]

theorem scale_at (y : FVec Ideal S4096x2048 .f32) (i : S_.Idx) :
    scale y i = step (peak fun p : Fin 4096 × Fin 2048 => mag (y (ix2 p.1 p.2))) := by
  pointwise! [scale]

theorem result_at (x : FVec Ideal S4096x4096 .bf16) (w : FVec Ideal S4096x2048 .bf16) (r : Fin 4096) (l : Fin 2048) :
    result x w (ix2 r l)
      = rounded (entry x w r l) (peak fun p : Fin 4096 × Fin 2048 => mag (entry x w p.1 p.2)) := by
  pointwise [result, scale_at, product_at]
  rfl

end Cert.Ring.Whole

/-! ## The launch's payloads, read at an index -/

namespace Cert.Ring

open Cert.KernelIdeal Cert.KernelIdeal.Gen
open Idealize.ShloMosaic
open Idealize.ShloMosaic.TcCoe
open Cert.Ring.Whole (entry mag step rounded peak peak_le)

theorem pay2_at (x : FVec Ideal S1024x4096 .bf16) (w : FVec Ideal S4096x512 .bf16) (r : Fin 1024) (l : Fin 512) :
    k0_pay2 (F := Ideal) x w (ix2 r l) = ∑ k : Fin 4096, x (ix2 r k) * w (ix2 k l) := by
  pointwise [k0_pay2]

theorem pay4_at (x : FVec Ideal S1x512x4096 .bf16) (w : FVec Ideal S4096x512 .bf16) (r : Fin 512) (l : Fin 512) :
    k0_pay4 (F := Ideal) x w (ix2 r l) = ∑ k : Fin 4096, x (ix3 0 r k) * w (ix2 k l) := by
  pointwise [k0_pay4]

/-- The largest magnitude in an array of rows. -/
abbrev span {n : ℕ} (v : FVec Ideal ⟨2, ![n, 512]⟩ .f32) : EReal := peak fun p : Fin n × Fin 512 => mag (v (ix2 p.1 p.2))

theorem pay3_eq (x : FVec Ideal S1024x4096 .bf16) (w : FVec Ideal S4096x512 .bf16) :
    k0_pay3 (F := Ideal) x w = span (k0_pay2 x w) := by
  unfold k0_pay3
  pointwise

theorem pay7_eq (t : EReal) (u : FVec Ideal S512x512 .f32) (x : FVec Ideal S1x512x4096 .bf16) (w : FVec Ideal S4096x512 .bf16) :
    k0_pay7 (F := Ideal) t u (k0_pay6 x w) = max t (max (span (k0_pay4 x w)) (span u)) := by
  unfold k0_pay7 k0_pay6
  pointwise

theorem pay10_eq (t : EReal) (u : FVec Ideal S512x512 .f32) (x : FVec Ideal S1x512x4096 .bf16) (w : FVec Ideal S4096x512 .bf16) :
    k0_pay10 (F := Ideal) t u x w = max t (max (span u) (span (k0_pay9 x w))) := by
  unfold k0_pay10
  pointwise

theorem pay13_at (t : EReal) (u v : FVec Ideal S512x512 .f32) :
    k0_pay13 (F := Ideal) t u v (ix3 0 0 0) = max t (max (span u) (span v)) := by
  unfold k0_pay13
  pointwise

theorem pay1_at (t : FVec Ideal S4x1x1 .f32) (v : FVec Ideal S4096x512 .f32) (r : Fin 4096) (l : Fin 512) :
    k0_pay1 (F := Ideal) t v (ix2 r l) = rounded (v (ix2 r l)) (peak fun h : Fin 4 => t (ix3 h 0 0)) := by
  pointwise [k0_pay1]

/-! ## The devices' shares -/

section Share

variable (x : FVec Ideal ⟨2, ![4096, 4096]⟩ .bf16) (w : FVec Ideal ⟨2, ![4096, 2048]⟩ .bf16)

/-- Each device's rows of `x`, and columns of `w`. -/
abbrev rowsOf (c : Dev nD) : Vec Ideal S1024x4096 .bf16 := Layout.block ⟨2, ![1024, 4096]⟩ ⟨2, ![4096, 4096]⟩ 0 4 c x
abbrev colsOf (c : Dev nD) : Vec Ideal S4096x512 .bf16 := Layout.block ⟨2, ![4096, 512]⟩ ⟨2, ![4096, 2048]⟩ 1 4 c w

/-- Row `r` of half `t` of device `o`'s rows, and column `l` of device `c`'s, among all. -/
abbrev rowAt (o : Dev nD) (t : Fin 2) (r : Fin 512) : Fin 4096 :=
  ⟨o.val * 1024 + (512 * t.val + r.val), by have : o.val < 4 := o.isLt; omega⟩
abbrev colAt (c : Dev nD) (l : Fin 512) : Fin 2048 := ⟨c.val * 512 + l.val, by have : c.val < 4 := c.isLt; omega⟩

theorem rowsOf_at (o : Dev nD) (r : Fin 1024) (k : Fin 4096) (a : Fin 4096) (ha : a.val = o.val * 1024 + r.val) :
    rowsOf x o (ix2 r k) = x (ix2 a k) :=
  congrArg x (funext fun b => Fin.ext (match b with | ⟨0, _⟩ => ha.symm | ⟨1, _⟩ => rfl))

theorem colsOf_at (c : Dev nD) (k : Fin 4096) (l : Fin 512) : colsOf w c (ix2 k l) = w (ix2 k (colAt c l)) :=
  congrArg w (funext fun b => Fin.ext (match b with | ⟨0, _⟩ => rfl | ⟨1, _⟩ => rfl))

theorem own_at (c : Dev nD) (r : Fin 1024) (l : Fin 512) (a : Fin 4096) (ha : a.val = c.val * 1024 + r.val) :
    k0_pay2 (rowsOf x c) (colsOf w c) (ix2 r l) = entry x w a (colAt c l) :=
  (pay2_at _ _ r l).trans (Finset.sum_congr rfl fun k _ => congrArg₂ (· * ·) (rowsOf_at x c r k a ha) (colsOf_at w c k l))

theorem half_at (o : Dev nD) (t : Fin 2) (r : Fin 512) (k : Fin 4096) :
    up (half (rowsOf x o) t) (ix3 0 r k) = x (ix2 (rowAt o t r) k) :=
  congrArg x (funext fun b => Fin.ext (match b with
    | ⟨0, _⟩ => congrArg (fun n => o.val * 1024 + (512 * t.val + n)) (Nat.one_mul r.val)
    | ⟨1, _⟩ => (Nat.zero_add _).trans (Nat.one_mul k.val)))

theorem prod_at (o c : Dev nD) (t : Fin 2) (r : Fin 512) (l : Fin 512) :
    k0_pay4 (up (half (rowsOf x o) t)) (colsOf w c) (ix2 r l) = entry x w (rowAt o t r) (colAt c l) :=
  (pay4_at _ _ r l).trans (Finset.sum_congr rfl fun k _ => congrArg₂ (· * ·) (half_at x o t r k) (colsOf_at w c k l))

/-- Device `c`'s columns of the product are its columns of the whole product. -/
theorem accV_at (c : Dev nD) (r : Fin 4096) (l : Fin 512) :
    accV (rowsOf x) (colsOf w) c (ix2 r l) = entry x w r (colAt c l) := by
  have hr := r.isLt
  show (if (⟨r.val / 1024, _⟩ : Dev nD) = c then _ else _) = _
  split
  · next h =>
    refine own_at x w c _ l r ?_
    rw [← h]
    show r.val = r.val / 1024 * 1024 + r.val % 1024
    omega
  · show (if r.val % 1024 < 512 then _ else _) = _
    split <;> refine (prod_at x w _ c _ _ l).trans (congrArg (entry x w · (colAt c l)) (Fin.ext ?_))
    · show r.val / 1024 * 1024 + (512 * 0 + r.val % 512) = r.val
      omega
    · show r.val / 1024 * 1024 + (512 * 1 + r.val % 512) = r.val
      omega

/-! ## The maxima -/

/-- All magnitudes in half `t` of device `o`'s rows, in device `c`'s columns, are at most `a`. -/
def Below (a : EReal) (c o : Dev nD) (t : Fin 2) : Prop := ∀ r l, mag (entry x w (rowAt o t r) (colAt c l)) ≤ a

theorem span_prod_le (a : EReal) (o c : Dev nD) (t : Fin 2) :
    span (k0_pay4 (up (half (rowsOf x o) t)) (colsOf w c)) ≤ a ↔ Below x w a c o t := by
  rw [peak_le]
  exact ⟨fun h r l => le_of_eq_of_le (congrArg mag (prod_at x w o c t r l).symm) (h (r, l)),
    fun h p => le_of_eq_of_le (congrArg mag (prod_at x w o c t p.1 p.2)) (h p.1 p.2)⟩

theorem span_own_le (a : EReal) (c : Dev nD) :
    span (k0_pay2 (rowsOf x c) (colsOf w c)) ≤ a ↔ ∀ t, Below x w a c c t := by
  rw [peak_le]
  constructor
  · intro h t r l
    refine le_of_eq_of_le (congrArg mag (own_at x w c ⟨512 * t.val + r.val, by omega⟩ l (rowAt c t r) rfl).symm) (h (_, l))
  · rintro h ⟨r, l⟩
    have hc : c.val < 4 := c.isLt
    have e := own_at x w c r l (rowAt c ⟨r.val / 512, by omega⟩ ⟨r.val % 512, Nat.mod_lt _ (by decide)⟩)
      (by show c.val * 1024 + (512 * (r.val / 512) + r.val % 512) = c.val * 1024 + r.val; omega)
    exact le_of_eq_of_le (congrArg mag e) (h _ _ _)

/-- Going round the ring from any device one meets every device. -/
theorem round_all (c : Dev nD) (P : Dev nD → Prop) : (∀ o, P o) ↔ P c ∧ P (ahead 1 c) ∧ P (ahead 2 c) ∧ P (ahead 3 c) := by
  refine ⟨fun h => ⟨h _, h _, h _, h _⟩, fun ⟨h0, h1, h2, h3⟩ o => ?_⟩
  have all : ∀ c o : Dev nD, o = c ∨ o = ahead 1 c ∨ o = ahead 2 c ∨ o = ahead 3 c := by decide
  rcases all c o with rfl | rfl | rfl | rfl <;> assumption

/-- A device's maximum, in seven pieces, is bounded by what bounds its columns. -/
theorem tile_le (a : EReal) (c : Dev nD) :
    tile (rowsOf x) (colsOf w) c (ix3 0 0 0) ≤ a ↔ ∀ o t, Below x w a c o t := by
  have h2 : ahead 6 c = ahead 2 c := by revert c; decide
  have h1 : ahead 9 c = ahead 1 c := by revert c; decide
  have e : tile (rowsOf x) (colsOf w) c (ix3 0 0 0)
      = max (max (max (span (k0_pay2 (rowsOf x c) (colsOf w c)))
          (max (span (k0_pay4 (up (half (rowsOf x (ahead 3 c)) 0)) (colsOf w c)))
            (span (k0_pay4 (up (half (rowsOf x (ahead 1 c)) 1)) (colsOf w c)))))
          (max (span (k0_pay4 (up (half (rowsOf x (ahead 6 c)) 0)) (colsOf w c)))
            (span (k0_pay4 (up (half (rowsOf x (ahead 2 c)) 1)) (colsOf w c)))))
          (max (span (k0_pay4 (up (half (rowsOf x (ahead 9 c)) 0)) (colsOf w c)))
            (span (k0_pay4 (up (half (rowsOf x (ahead 3 c)) 1)) (colsOf w c)))) := by
    unfold tile
    rw [pay13_at]
    unfold top2
    rw [pay10_eq]
    unfold top1
    rw [pay7_eq]
    unfold top0
    rw [pay3_eq]
    rfl
  rw [e, h2, h1]
  refine Iff.trans ?_ (round_all c fun o => ∀ t, Below x w a c o t).symm
  rw [max_le_iff, max_le_iff, max_le_iff, max_le_iff, max_le_iff, max_le_iff, span_own_le]
  iterate 6 rw [span_prod_le]
  exact ⟨fun ⟨⟨⟨h, h30, h11⟩, h20, h21⟩, h10, h31⟩ =>
      ⟨h, Fin.forall_fin_two.2 ⟨h10, h11⟩, Fin.forall_fin_two.2 ⟨h20, h21⟩, Fin.forall_fin_two.2 ⟨h30, h31⟩⟩,
    fun ⟨h, g1, g2, g3⟩ => ⟨⟨⟨h, g3 0, g1 1⟩, g2 0, g2 1⟩, g1 0, g3 1⟩⟩

/-- The largest of the four maxima is the maximum of the whole product. -/
theorem peak_tops (c : Dev nD) :
    (peak fun h : Fin 4 => tops (rowsOf x) (colsOf w) c (ix3 h 0 0))
      = peak fun p : Fin 4096 × Fin 2048 => mag (entry x w p.1 p.2) := by
  refine eq_of_forall_ge_iff fun a => ?_
  rw [peak_le, peak_le]
  have key : (∀ h : Fin 4, tops (rowsOf x) (colsOf w) c (ix3 h 0 0) ≤ a) ↔ ∀ d o t, Below x w a d o t := by
    have all : ∀ c d : Dev nD, ∃ k : Fin 4, ahead (3 * k.val) c = d := by decide
    have here : ∀ k : Fin 4, tops (rowsOf x) (colsOf w) c (ix3 k 0 0)
        = tile (rowsOf x) (colsOf w) (ahead (3 * k.val) c) (ix3 0 0 0) := fun _ => rfl
    refine ⟨fun h d => ?_, fun h k => le_of_eq_of_le (here k) ((tile_le x w a _).2 (h _))⟩
    obtain ⟨k, rfl⟩ := all c d
    exact (tile_le x w a _).1 (le_of_eq_of_le (here k).symm (h k))
  rw [key]
  constructor
  · rintro h ⟨r, l⟩
    have hr := r.isLt
    have hl := l.isLt
    have q := h (⟨l.val / 512, by show _ < 4; omega⟩ : Dev nD) (⟨r.val / 1024, by show _ < 4; omega⟩ : Dev nD)
      ⟨r.val % 1024 / 512, by omega⟩ ⟨r.val % 512, Nat.mod_lt _ (by decide)⟩ ⟨l.val % 512, Nat.mod_lt _ (by decide)⟩
    refine le_of_eq_of_le (congrArg mag (congrArg₂ (entry x w) (Fin.ext ?_) (Fin.ext ?_))) q
    · show r.val = r.val / 1024 * 1024 + (512 * (r.val % 1024 / 512) + r.val % 512)
      omega
    · show l.val = l.val / 512 * 512 + l.val % 512
      omega
  · intro h d o t r l
    exact h (_, _)

/-- Each device's result is its columns of the reference's. -/
theorem outV_eq (c : Dev nD) :
    outV (rowsOf x) (colsOf w) c = Layout.block ⟨2, ![4096, 512]⟩ ⟨2, ![4096, 2048]⟩ 1 4 c (Whole.result x w) := by
  funext i
  obtain ⟨r, l, rfl⟩ : ∃ (r : Fin 4096) (l : Fin 512), i = ix2 r l := ⟨i 0, i 1, eq_ix2 i⟩
  refine (pay1_at _ _ r l).trans ?_
  rw [accV_at, peak_tops, ← Whole.result_at]
  exact congrArg (Whole.result x w) (funext fun b => Fin.ext (match b with | ⟨0, _⟩ => rfl | ⟨1, _⟩ => rfl))

end Share

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its idealization have one text: their bodies are equal, -/
theorem bodies_eq {F : FTy → Type} [FloatOps F] : Cert.Kernel.defs₀ (F := F) = Cert.KernelIdeal.defs₀ (F := F) :=
  congrArg (Defs.onTc (nD := Cert.KernelIdeal.nD) (τ := Cert.KernelIdeal.τ) (sig := Cert.KernelIdeal.sig))
    (funext fun l => funext fun a => match l, a with
      | 0, (_, _) => rfl
      | ⟨_ + 1, h⟩, _ => absurd h (Nat.not_lt.2 (Nat.le_add_left _ _)))

/-- and so are the programs the launch may call. -/
theorem defs_eq {F : FTy → Type} [FloatOps F] : Cert.Kernel.defs (F := F) = Cert.KernelIdeal.defs (F := F) :=
  congrArg (Pipeline.defs (Cert.KernelIdeal.pcfgs (F := F))) bodies_eq

/-- The kernel as printed: the launch's run at the bit-exact floats, read at the operands and the counters. -/
theorem frame_kernel : Cert.quiescent_Kernel := by
  intro m ρ _
  refine (congrArg (fun d => θ_run d (onTc (τ := τ) (main (F := Bits))) _ _) (defs_eq (F := Bits))).mpr ?_
  exact (θ_run Cert.KernelIdeal.defs _ _).mono (fun _ h => ⟨fun c => (h.1 c).2, h.2⟩) (Cert.Ring.run_main (F := Bits) m ρ)

/-- Its idealization: the same run over the extended reals. -/
theorem frame_ideal : Cert.quiescent_KernelIdeal := fun m ρ _ =>
  (θ_run Cert.KernelIdeal.defs _ _).mono (fun _ h => ⟨fun c => (h.1 c).2, h.2⟩) (Cert.Ring.run_main (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device ends with its columns of the reference's result. -/
theorem algebraic : Cert.algebraic_KernelIdeal_ReferenceIdeal := by
  intro m g m' g' _ hagree
  let x := m' (((0 : Dev Cert.ReferenceIdeal.nD).tc : Thread Cert.ReferenceIdeal.nD Cert.ReferenceIdeal.τ).loc Cert.ReferenceIdeal.main_arg0)
  let w := m' (((0 : Dev Cert.ReferenceIdeal.nD).tc : Thread Cert.ReferenceIdeal.nD Cert.ReferenceIdeal.τ).loc Cert.ReferenceIdeal.main_arg1)
  have hx : Cert.Ring.xIn (F := Ideal) m = Cert.Ring.rowsOf x := funext fun c => (hagree c).1
  have hw : Cert.Ring.wIn (F := Ideal) m = Cert.Ring.colsOf w := funext fun c => (hagree c).2
  refine ⟨Cert.Ring.Whole.result x w,
    (θ_run Cert.KernelIdeal.defs _ _).mono (fun _ h c => ⟨((h.1 c).1.trans ?_).trans (Cert.Ring.outV_eq x w c), (h.1 c).2⟩)
      (Cert.Ring.run_main (F := Ideal) m g),
    (θ_run Cert.ReferenceIdeal.defs _ _).mono (fun _ h => h 0) (Cert.ReferenceIdeal.Value.run (F := Ideal) m' g')⟩
  rw [hx, hw]

theorem claim : Cert.Claim := ⟨Cert.Kernel.Gen.facts, Cert.KernelIdeal.Gen.facts, Cert.ReferenceIdeal.Gen.facts,
  frame_kernel, frame_ideal, frame_reference, trivial, algebraic⟩

end Cert.Proof

end
